-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 4096]⟩ ⟨2, ![4096, 4096]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 128]⟩ ⟨2, ![4096, 2048]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 128]⟩ ⟨2, ![4096, 2048]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x4096 : Shape := ⟨2, ![256, 4096]⟩
abbrev S4096x128 : Shape := ⟨2, ![4096, 128]⟩
abbrev S1 : Shape := ⟨1, ![1]⟩
abbrev S16x256x4096 : Shape := ⟨3, ![16, 256, 4096]⟩
abbrev S8 : Shape := ⟨1, ![8]⟩
abbrev S1x256x4096 : Shape := ⟨3, ![1, 256, 4096]⟩
abbrev S_ : Shape := ⟨0, ![]⟩
abbrev S256x128 : Shape := ⟨2, ![256, 128]⟩
abbrev S1x128x4096 : Shape := ⟨3, ![1, 128, 4096]⟩
abbrev S128x4096 : Shape := ⟨2, ![128, 4096]⟩

abbrev nBuf : Space → Nat
  | .hbm => 5
  | .vmem => 5
  | .smem => 2
  | _ => 0

abbrev bufTy : (tb : Table) → Fin (tcTables nBuf tb) → BufTy
  | .hbm, ⟨0, _⟩ => ⟨S256x4096, .fp8e5m2⟩
  | .hbm, ⟨1, _⟩ => ⟨S4096x128, .fp8e5m2⟩
  | .hbm, ⟨2, _⟩ => ⟨S1, .f32⟩
  | .hbm, ⟨3, _⟩ => ⟨S1, .f32⟩
  | .hbm, ⟨4, _⟩ => ⟨S4096x128, .f32⟩
  | .local _ .vmem, ⟨0, _⟩ => ⟨S256x4096, .fp8e5m2⟩
  | .local _ .vmem, ⟨1, _⟩ => ⟨S4096x128, .fp8e5m2⟩
  | .local _ .vmem, ⟨2, _⟩ => ⟨S4096x128, .f32⟩
  | .local _ .vmem, ⟨3, _⟩ => ⟨S16x256x4096, .fp8e5m2⟩
  | .local _ .vmem, ⟨4, _⟩ => ⟨S4096x128, .fp8e5m2⟩
  | .local _ .smem, ⟨0, _⟩ => ⟨S1, .f32⟩
  | .local _ .smem, ⟨1, _⟩ => ⟨S1, .f32⟩
  | _, _ => ⟨S256x4096, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 1 → Bool
  | ⟨0, _⟩ => false
  | _ => false

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  (ofTc nBuf bufTy 1 37 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_scratch0 : Ref sig .tc := ⟨.vmem, 3, rfl⟩
abbrev cc0_scratch1 : Ref sig .tc := ⟨.vmem, 4, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 16
abbrev τ : Topo := Topo.v7x

variable {F : FTy → Type} [FloatOps F]

abbrev grid0 : Pipeline.Grid := .none

def k0_off1 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v10 : Index := Scalar.indexCast v2
  let c0_6 : Index := 0#32
  let c0_7 : Index := 0#32
  ![v10.toNat, 0, 0]
def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_9 : BitVec 32 := 1#32
  let v15 : BitVec 32 := Scalar.muli v5 c1_i32_9
  let v16 : BitVec 32 := Scalar.addi c0_i32 v15
  v16.toNat
def k0_dev2 (d0 : Dev nD) : Nat :=
  let c0_i32_12 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_11 : BitVec 32 := 1#32
  let v17 : BitVec 32 := Scalar.muli v7 c1_i32_11
  let v18 : BitVec 32 := Scalar.addi c0_i32_12 v17
  v18.toNat
def k0_off2 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_19 : BitVec 32 := 0#32
  let c0_i32_20 : BitVec 32 := 0#32
  ![v2.toNat, 0, 0]
def k0_dev3 (d0 : Dev nD) : Nat :=
  let c0_i32_18 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_17 : BitVec 32 := 1#32
  let v22 : BitVec 32 := Scalar.muli v7 c1_i32_17
  let v23 : BitVec 32 := Scalar.addi c0_i32_18 v22
  v23.toNat
def k0_dev4 (d0 : Dev nD) : Nat :=
  let c0_i32_26 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_25 : BitVec 32 := 1#32
  let v32 : BitVec 32 := Scalar.muli v5 c1_i32_25
  let v33 : BitVec 32 := Scalar.addi c0_i32_26 v32
  v33.toNat
def k0_off3 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v56 : BitVec 32 := Scalar.muli v2 c256_i32
  let v57 : Index := Scalar.indexCast v56
  let c0_40 : Index := 0#32
  ![v57.toNat, 0]
def k0_off4 (d0 : Dev nD) (c0_i32_42 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_41 : BitVec 32 := 1#32
  let v59 : BitVec 32 := Scalar.subi v2 c1_i32_41
  let v60 : BitVec 32 := Scalar.subi v59 c0_i32_42
  let c16_i32_43 : BitVec 32 := 16#32
  let v61 : BitVec 32 := Scalar.addi v60 c16_i32_43
  let c16_i32_44 : BitVec 32 := 16#32
  let v62 : BitVec 32 := Scalar.remsi v61 c16_i32_44
  let c0_i32_52 : BitVec 32 := 0#32
  let c0_i32_53 : BitVec 32 := 0#32
  ![v62.toNat, 0, 0]
def k0_dev5 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_58 : BitVec 32 := 1#32
  let v74 : BitVec 32 := Scalar.muli v7 c1_i32_58
  let v75 : BitVec 32 := Scalar.addi c0_i32_59 v74
  v75.toNat
def k0_off5 (d0 : Dev nD) (c0_i32_46 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_45 : BitVec 32 := 1#32
  let v63 : BitVec 32 := Scalar.addi v2 c1_i32_45
  let v64 : BitVec 32 := Scalar.addi v63 c0_i32_46
  let c16_i32_47 : BitVec 32 := 16#32
  let v65 : BitVec 32 := Scalar.remsi v64 c16_i32_47
  let c0_i32_68 : BitVec 32 := 0#32
  let c0_i32_69 : BitVec 32 := 0#32
  ![v65.toNat, 0, 0]
def k0_dev6 (d0 : Dev nD) : Nat :=
  let c0_i32_75 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_74 : BitVec 32 := 1#32
  let v92 : BitVec 32 := Scalar.muli v5 c1_i32_74
  let v93 : BitVec 32 := Scalar.addi c0_i32_75 v92
  v93.toNat
def k0_off6 (d0 : Dev nD) (c0_i32_42 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_41 : BitVec 32 := 1#32
  let v59 : BitVec 32 := Scalar.subi v2 c1_i32_41
  let v60 : BitVec 32 := Scalar.subi v59 c0_i32_42
  let c16_i32_43 : BitVec 32 := 16#32
  let v61 : BitVec 32 := Scalar.addi v60 c16_i32_43
  let c16_i32_44 : BitVec 32 := 16#32
  let v62 : BitVec 32 := Scalar.remsi v61 c16_i32_44
  let v102 : Index := Scalar.indexCast v62
  let c0_80 : Index := 0#32
  let c0_81 : Index := 0#32
  ![v102.toNat, 0, 0]
def k0_off7 (d0 : Dev nD) (c0_i32_42 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_41 : BitVec 32 := 1#32
  let v59 : BitVec 32 := Scalar.subi v2 c1_i32_41
  let v60 : BitVec 32 := Scalar.subi v59 c0_i32_42
  let c16_i32_43 : BitVec 32 := 16#32
  let v61 : BitVec 32 := Scalar.addi v60 c16_i32_43
  let c16_i32_44 : BitVec 32 := 16#32
  let v62 : BitVec 32 := Scalar.remsi v61 c16_i32_44
  let c256_i32_86 : BitVec 32 := 256#32
  let v111 : BitVec 32 := Scalar.muli v62 c256_i32_86
  let v112 : Index := Scalar.indexCast v111
  let c0_87 : Index := 0#32
  ![v112.toNat, 0]
def k0_off8 (d0 : Dev nD) (c0_i32_46 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_45 : BitVec 32 := 1#32
  let v63 : BitVec 32 := Scalar.addi v2 c1_i32_45
  let v64 : BitVec 32 := Scalar.addi v63 c0_i32_46
  let c16_i32_47 : BitVec 32 := 16#32
  let v65 : BitVec 32 := Scalar.remsi v64 c16_i32_47
  let v114 : Index := Scalar.indexCast v65
  let c0_88 : Index := 0#32
  let c0_89 : Index := 0#32
  ![v114.toNat, 0, 0]
def k0_off9 (d0 : Dev nD) (c0_i32_46 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_45 : BitVec 32 := 1#32
  let v63 : BitVec 32 := Scalar.addi v2 c1_i32_45
  let v64 : BitVec 32 := Scalar.addi v63 c0_i32_46
  let c16_i32_47 : BitVec 32 := 16#32
  let v65 : BitVec 32 := Scalar.remsi v64 c16_i32_47
  let c256_i32_94 : BitVec 32 := 256#32
  let v123 : BitVec 32 := Scalar.muli v65 c256_i32_94
  let v124 : Index := Scalar.indexCast v123
  let c0_95 : Index := 0#32
  ![v124.toNat, 0]
def k0_dev7 (d0 : Dev nD) : Nat :=
  let c0_i32_114 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_113 : BitVec 32 := 1#32
  let v141 : BitVec 32 := Scalar.muli v7 c1_i32_113
  let v142 : BitVec 32 := Scalar.addi c0_i32_114 v141
  v142.toNat
def k0_dev8 (d0 : Dev nD) : Nat :=
  let c0_i32_130 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_129 : BitVec 32 := 1#32
  let v159 : BitVec 32 := Scalar.muli v5 c1_i32_129
  let v160 : BitVec 32 := Scalar.addi c0_i32_130 v159
  v160.toNat
def k0_dev9 (d0 : Dev nD) : Nat :=
  let c0_i32_168 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_167 : BitVec 32 := 1#32
  let v208 : BitVec 32 := Scalar.muli v7 c1_i32_167
  let v209 : BitVec 32 := Scalar.addi c0_i32_168 v208
  v209.toNat
def k0_dev10 (d0 : Dev nD) : Nat :=
  let c0_i32_184 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_183 : BitVec 32 := 1#32
  let v226 : BitVec 32 := Scalar.muli v5 c1_i32_183
  let v227 : BitVec 32 := Scalar.addi c0_i32_184 v226
  v227.toNat
def k0_dev11 (d0 : Dev nD) : Nat :=
  let c0_i32_222 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_221 : BitVec 32 := 1#32
  let v275 : BitVec 32 := Scalar.muli v7 c1_i32_221
  let v276 : BitVec 32 := Scalar.addi c0_i32_222 v275
  v276.toNat
def k0_dev12 (d0 : Dev nD) : Nat :=
  let c0_i32_238 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_237 : BitVec 32 := 1#32
  let v293 : BitVec 32 := Scalar.muli v5 c1_i32_237
  let v294 : BitVec 32 := Scalar.addi c0_i32_238 v293
  v294.toNat
def k0_dev13 (d0 : Dev nD) : Nat :=
  let c0_i32_276 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_275 : BitVec 32 := 1#32
  let v342 : BitVec 32 := Scalar.muli v7 c1_i32_275
  let v343 : BitVec 32 := Scalar.addi c0_i32_276 v342
  v343.toNat
def k0_dev14 (d0 : Dev nD) : Nat :=
  let c0_i32_292 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_291 : BitVec 32 := 1#32
  let v360 : BitVec 32 := Scalar.muli v5 c1_i32_291
  let v361 : BitVec 32 := Scalar.addi c0_i32_292 v360
  v361.toNat
def k0_dev15 (d0 : Dev nD) : Nat :=
  let c0_i32_330 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_329 : BitVec 32 := 1#32
  let v409 : BitVec 32 := Scalar.muli v7 c1_i32_329
  let v410 : BitVec 32 := Scalar.addi c0_i32_330 v409
  v410.toNat
def k0_dev16 (d0 : Dev nD) : Nat :=
  let c0_i32_346 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_345 : BitVec 32 := 1#32
  let v427 : BitVec 32 := Scalar.muli v5 c1_i32_345
  let v428 : BitVec 32 := Scalar.addi c0_i32_346 v427
  v428.toNat
def k0_off10 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_367 : BitVec 32 := 1#32
  let v461 : BitVec 32 := Scalar.subi v2 c1_i32_367
  let c6_i32_368 : BitVec 32 := 6#32
  let v462 : BitVec 32 := Scalar.subi v461 c6_i32_368
  let c16_i32_369 : BitVec 32 := 16#32
  let v463 : BitVec 32 := Scalar.addi v462 c16_i32_369
  let c16_i32_370 : BitVec 32 := 16#32
  let v464 : BitVec 32 := Scalar.remsi v463 c16_i32_370
  let c0_i32_385 : BitVec 32 := 0#32
  let c0_i32_386 : BitVec 32 := 0#32
  ![v464.toNat, 0, 0]
def k0_dev17 (d0 : Dev nD) : Nat :=
  let c0_i32_384 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_383 : BitVec 32 := 1#32
  let v476 : BitVec 32 := Scalar.muli v7 c1_i32_383
  let v477 : BitVec 32 := Scalar.addi c0_i32_384 v476
  v477.toNat
def k0_off11 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_371 : BitVec 32 := 1#32
  let v465 : BitVec 32 := Scalar.addi v2 c1_i32_371
  let c6_i32_372 : BitVec 32 := 6#32
  let v466 : BitVec 32 := Scalar.addi v465 c6_i32_372
  let c16_i32_373 : BitVec 32 := 16#32
  let v467 : BitVec 32 := Scalar.remsi v466 c16_i32_373
  let c128_i32 : BitVec 32 := 128#32
  let c0_i32_401 : BitVec 32 := 0#32
  ![v467.toNat, 128, 0]
def k0_dev18 (d0 : Dev nD) : Nat :=
  let c0_i32_400 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_399 : BitVec 32 := 1#32
  let v494 : BitVec 32 := Scalar.muli v5 c1_i32_399
  let v495 : BitVec 32 := Scalar.addi c0_i32_400 v494
  v495.toNat
def k0_off12 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v528 : BitVec 32 := Scalar.addi v2 c8_i32
  let c16_i32_420 : BitVec 32 := 16#32
  let v529 : BitVec 32 := Scalar.remsi v528 c16_i32_420
  let c0_i32_425 : BitVec 32 := 0#32
  let c0_i32_426 : BitVec 32 := 0#32
  ![v529.toNat, 0, 0]
def k0_off13 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v528 : BitVec 32 := Scalar.addi v2 c8_i32
  let c16_i32_420 : BitVec 32 := 16#32
  let v529 : BitVec 32 := Scalar.remsi v528 c16_i32_420
  let c128_i32_433 : BitVec 32 := 128#32
  let c0_i32_434 : BitVec 32 := 0#32
  ![v529.toNat, 128, 0]
def k0_off14 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v528 : BitVec 32 := Scalar.addi v2 c8_i32
  let c16_i32_420 : BitVec 32 := 16#32
  let v529 : BitVec 32 := Scalar.remsi v528 c16_i32_420
  let v546 : Index := Scalar.indexCast v529
  let c0_437 : Index := 0#32
  let c0_438 : Index := 0#32
  ![v546.toNat, 0, 0]
def k0_off15 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v528 : BitVec 32 := Scalar.addi v2 c8_i32
  let c16_i32_420 : BitVec 32 := 16#32
  let v529 : BitVec 32 := Scalar.remsi v528 c16_i32_420
  let c256_i32_443 : BitVec 32 := 256#32
  let v555 : BitVec 32 := Scalar.muli v529 c256_i32_443
  let v556 : Index := Scalar.indexCast v555
  let c0_444 : Index := 0#32
  ![v556.toNat, 0]
abbrev stage0_0 : Fin 1 → Memref sig .tc .vmem S256x4096 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x128 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩

abbrev nBuf : Space → Nat
  | .hbm => 5
  | .vmem => 3
  | .smem => 2
  | _ => 0

abbrev bufTy : (tb : Table) → Fin (tcTables nBuf tb) → BufTy
  | .hbm, ⟨0, _⟩ => ⟨S4096x4096, .fp8e5m2⟩
  | .hbm, ⟨1, _⟩ => ⟨S4096x2048, .fp8e5m2⟩
  | .hbm, ⟨2, _⟩ => ⟨S1, .f32⟩
  | .hbm, ⟨3, _⟩ => ⟨S1, .f32⟩
  | .hbm, ⟨4, _⟩ => ⟨S4096x2048, .f32⟩
  | .local _ .vmem, ⟨0, _⟩ => ⟨S4096x4096, .fp8e5m2⟩
  | .local _ .vmem, ⟨1, _⟩ => ⟨S4096x2048, .fp8e5m2⟩
  | .local _ .vmem, ⟨2, _⟩ => ⟨S4096x2048, .f32⟩
  | .local _ .smem, ⟨0, _⟩ => ⟨S1, .f32⟩
  | .local _ .smem, ⟨1, _⟩ => ⟨S1, .f32⟩
  | _, _ => ⟨S4096x4096, .fp8e5m2⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Protocol.lean ====
/-
The bidirectional ring all-gather: who sends what to whom, over which semaphore, and what each landing hands over.

Sixteen copies leave every device. Copy `j` with `j < 8` is the right-going copy of round `j`, copy `8 + r` the
left-going copy of round `r`. A right-going copy of round `r < 7` carries slot `c - r` whole, a left-going one slot
`c + r` whole; in round 7 the right-going copy carries the upper half of slot `c - 7` and the left-going one the lower
half of slot `c + 7`, and the two meet in slot `c + 8` of the receiver. A slot's contents do not depend on the device
that holds it (`gath`).
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every counter zero. -/
def s₀ : MemSt nD τ sig (Elt F) := ⟨m, fun _ => 0, ρ⟩

/-! ## The ring -/

set_option backward.proofsInPublic true in
/-- The device after `c`. -/
def rgt (c : Dev nD) : Dev nD := ⟨(c.val + 1) % 16, Nat.mod_lt _ (by decide)⟩
set_option backward.proofsInPublic true in
/-- The device before `c`. -/
def lft (c : Dev nD) : Dev nD := ⟨(c.val + 15) % 16, Nat.mod_lt _ (by decide)⟩

/-- The neighbour before the neighbour after is the device itself. -/
theorem lft_rgt (c : Dev nD) : lft (rgt c) = c := by revert c; decide
/-- And the other way round. -/
theorem rgt_lft (c : Dev nD) : rgt (lft c) = c := by revert c; decide

/-- The device copy `j` of device `c` goes to, and the device it comes to `c` from. -/
def tgt (j : Fin 16) (c : Dev nD) : Dev nD := if j.val < 8 then rgt c else lft c
def frm (j : Fin 16) (c : Dev nD) : Dev nD := if j.val < 8 then lft c else rgt c

/-- The target of copy `j` of the device that copy `j` comes from is the device itself. -/
theorem tgt_frm (j : Fin 16) (c : Dev nD) : tgt j (frm j c) = c := by unfold tgt frm; split <;> simp only [rgt_lft, lft_rgt]
/-- And the other way round. -/
theorem frm_tgt (j : Fin 16) (c : Dev nD) : frm j (tgt j c) = c := by unfold tgt frm; split <;> simp only [rgt_lft, lft_rgt]

def ring : Dev nD ≃ Dev nD := ⟨rgt, lft, lft_rgt, rgt_lft⟩
def ringTgt (j : Fin 16) : Dev nD ≃ Dev nD := ⟨tgt j, frm j, frm_tgt j, tgt_frm j⟩

set_option backward.proofsInPublic true in
/-- The slot that copy `j` of device `c` carries. -/
def sIx (j : Fin 16) (c : Dev nD) : Fin 16 :=
  ⟨(if j.val < 8 then c.val + 16 - j.val else c.val + (j.val - 8)) % 16, Nat.mod_lt _ (by decide)⟩
/-- The slot that copy `j` brings to device `c`. -/
def rIx (j : Fin 16) (c : Dev nD) : Fin 16 := sIx j (frm j c)

/-- What the target receives by copy `j` is the slot that the sender sends. -/
theorem rIx_tgt (j : Fin 16) (c : Dev nD) : rIx j (tgt j c) = sIx j c := by unfold rIx; rw [frm_tgt]

/-- The rows of a slot that copy `j` carries: `plo j ≤ row < phi j`. -/
def plo (j : Fin 16) : ℕ := if j.val = 15 then 128 else 0
def phi (j : Fin 16) : ℕ := if j.val = 7 then 128 else 256

/-- Rows `lo` to `hi` of slot `o` of the gathered activations. -/
def rows (o : Fin 16) (lo hi : ℕ) : Finset S16x256x4096.Idx :=
  Finset.univ.filter fun i => (i 0).val = o.val ∧ lo ≤ (i 1).val ∧ (i 1).val < hi

/-- An element is among the rows when it is in the slot and its row is in the range. -/
theorem mem_rows {o : Fin 16} {lo hi : ℕ} {i : S16x256x4096.Idx} :
    i ∈ rows o lo hi ↔ (i 0).val = o.val ∧ lo ≤ (i 1).val ∧ (i 1).val < hi := by
  unfold rows; rw [Finset.mem_filter]; exact ⟨fun h => h.2, fun h => ⟨Finset.mem_univ _, h⟩⟩

/-! ## Memrefs and cells -/

abbrev xgM : Memref sig .tc .vmem S16x256x4096 .fp8e5m2 := Memref.whole cc0_scratch0
abbrev w8M : Memref sig .tc .vmem S4096x128 .fp8e5m2 := Memref.whole cc0_scratch1
abbrev xM : Memref sig .tc .vmem S256x4096 .fp8e5m2 := Memref.whole cc0_stg0_0
abbrev wM : Memref sig .tc .vmem S4096x128 .fp8e5m2 := Memref.whole cc0_stg1_0
abbrev sxM : Memref sig .tc .smem S1 .f32 := Memref.whole cc0_stg2_0
abbrev swM : Memref sig .tc .smem S1 .f32 := Memref.whole cc0_stg3_0
abbrev oM : Memref sig .tc .vmem S4096x128 .f32 := Memref.whole cc0_stg4_0

/-- A whole slot as the copies address it. -/
abbrev slotM (off : Fin 3 → ℕ) (inb : ∀ a, off a + S1x256x4096.size a ≤ S16x256x4096.size a) : Memref sig .tc .vmem S256x4096 .fp8e5m2 :=
  (xgM.slice (Rect.unit (s := S16x256x4096) off S1x256x4096.size inb) (fun _ => rfl)).squeeze S256x4096 squeezes_S1x256x4096_S256x4096
/-- Half a slot as the copies address it. -/
abbrev halfM (off : Fin 3 → ℕ) (inb : ∀ a, off a + S1x128x4096.size a ≤ S16x256x4096.size a) : Memref sig .tc .vmem S128x4096 .fp8e5m2 :=
  (xgM.slice (Rect.unit (s := S16x256x4096) off S1x128x4096.size inb) (fun _ => rfl)).squeeze S128x4096 squeezes_S1x128x4096_S128x4096

abbrev barS : Sem sig := (SemArray.scalar (sig.barrier 0 rfl) : Sems sig S_).sem
set_option backward.proofsInPublic true in
/-- The semaphore copy `j` signals at its sender, and the one it signals at its receiver. -/
def sSem (j : Fin 16) : DmaSem sig := ⟨5 + j.val, by have := j.isLt; show 5 + j.val < 37; omega⟩
set_option backward.proofsInPublic true in
def rSem (j : Fin 16) : DmaSem sig := ⟨21 + j.val, by have := j.isLt; show 21 + j.val < 37; omega⟩

/-- The protocol's semaphores: the send ones, the receive ones, the barrier. -/
abbrev CI : Type := (Fin 16 ⊕ Fin 16) ⊕ Unit

/-- The semaphore of each kind. -/
def csem : CI → SemLoc sig
  | .inl (.inl j) => .dma (sSem j)
  | .inl (.inr j) => .dma (rSem j)
  | .inr _ => .reg barS

set_option backward.proofsInPublic true in
/-- What a semaphore is in the protocol, if anything. -/
def kd : SemLoc sig → Option CI
  | .dma q => if q.val < 5 then none
      else if q.val < 21 then some (.inl (.inl ⟨(q.val - 5) % 16, Nat.mod_lt _ (by decide)⟩))
      else some (.inl (.inr ⟨(q.val - 21) % 16, Nat.mod_lt _ (by decide)⟩))
  | .reg s => if s = barS then some (.inr ()) else none

/-- The semaphore of each kind is recognised as that kind. -/
theorem kd_csem (k : CI) : kd (csem k) = some k := by
  rcases k with (j | j) | u
  · revert j; decide
  · revert j; decide
  · show (if barS = barS then some (Sum.inr ()) else none : Option CI) = _; exact if_pos rfl

abbrev kcell (ck : Dev nD × CI) : GSem nD τ sig := ((ck.1 : Thread nD τ), csem ck.2)
abbrev sendC (j : Fin 16) (c : Dev nD) : GSem nD τ sig := ((c : Thread nD τ), .dma (sSem j))
abbrev recvC (j : Fin 16) (c : Dev nD) : GSem nD τ sig := ((c : Thread nD τ), .dma (rSem j))
abbrev barC (c : Dev nD) : GSem nD τ sig := ((c : Thread nD τ), .reg barS)

/-- The send semaphores are recognised. -/
theorem kd_send (j : Fin 16) : kd (.dma (sSem j)) = some (.inl (.inl j)) := kd_csem (.inl (.inl j))
/-- The receive semaphores are recognised. -/
theorem kd_recv (j : Fin 16) : kd (.dma (rSem j)) = some (.inl (.inr j)) := kd_csem (.inl (.inr j))
/-- The barrier semaphore is recognised. -/
theorem kd_bar : kd (.reg barS) = some (.inr ()) := kd_csem (.inr ())

/-- Different devices or kinds have different semaphores. -/
theorem kcell_injective : Function.Injective kcell := by
  rintro ⟨c, k⟩ ⟨c', k'⟩ h
  have h1 : c = c' := congrArg (fun g : GSem nD τ sig => g.1.1) h
  have h2 : csem k = csem k' := congrArg (fun g : GSem nD τ sig => g.2) h
  have h3 : some k = some k' := by rw [← kd_csem, ← kd_csem, h2]
  rw [h1, Option.some.inj h3]

/-- What one copy adds to each of its two semaphores: the credit of a whole slot, and of half a slot. -/
def nW : ℕ := (slotM ![0, 0, 0] (by decide)).view.dmaCredit
def nH : ℕ := (halfM ![0, 0, 0] (by decide)).view.dmaCredit
def nC (j : Fin 16) : ℕ := if j.val % 8 = 7 then nH else nW
/-- Every copy credits its semaphores with something. -/
theorem nC_pos (j : Fin 16) : 0 < nC j := by
  unfold nC nH nW; split <;> exact View.dmaCredit_pos _ (by decide)
/-- What a copy of a whole slot credits. -/
theorem credit_slot (off inb) : (slotM off inb).view.dmaCredit = nW := rfl
/-- What a copy of half a slot credits. -/
theorem credit_half (off inb) : (halfM off inb).view.dmaCredit = nH := rfl

/-! ## Contents -/

/-- Device `c`'s block of the activations, of the weights, and the two scales, as the body finds them. -/
def xstg (c : Dev nD) : (cc0_stg0_0 : Ref sig .tc).ty.Contents (Elt F) :=
  (win0_0.blk (0 : Fin 1)).view.read (Elt F) ((s₀ m ρ).mem ((c : Thread nD τ).loc main_arg0))
def wstg (c : Dev nD) : (cc0_stg1_0 : Ref sig .tc).ty.Contents (Elt F) :=
  (win0_1.blk (0 : Fin 1)).view.read (Elt F) ((s₀ m ρ).mem ((c : Thread nD τ).loc main_arg1))
def sxstg (c : Dev nD) : (cc0_stg2_0 : Ref sig .tc).ty.Contents (Elt F) :=
  (win0_2.blk (0 : Fin 1)).view.read (Elt F) ((s₀ m ρ).mem ((c : Thread nD τ).loc main_arg2))
def swstg (c : Dev nD) : (cc0_stg3_0 : Ref sig .tc).ty.Contents (Elt F) :=
  (win0_3.blk (0 : Fin 1)).view.read (Elt F) ((s₀ m ρ).mem ((c : Thread nD τ).loc main_arg3))

/-- Device `o`'s activations as it stores them into its slot. -/
def slab (o : Dev nD) : FVec F S1x256x4096 .fp8e5m2 := k0_pay1 (xstg m ρ o)

/-- The place within its slot of an element of the gathered activations. -/
def slabIx (i : S16x256x4096.Idx) : S1x256x4096.Idx := fun
  | ⟨0, _⟩ => (0 : Fin 1)
  | ⟨1, _⟩ => (i 1 : Fin 256)
  | ⟨2, _⟩ => (i 2 : Fin 4096)

/-- The gathered activations: slot `o` is device `o`'s. -/
def gath : (cc0_scratch0 : Ref sig .tc).ty.Contents (Elt F) := fun i => slab m ρ (i 0) (slabIx i)

/-- The weights as the body keeps them, and the product of the two scales. -/
def w8 (c : Dev nD) : FVec F S4096x128 .fp8e5m2 := k0_pay3 (wstg m ρ c)
set_option backward.proofsInPublic true in
def ix1 : S1.Idx := fun | ⟨0, _⟩ => (0 : Fin 1)
def scl (c : Dev nD) : F .f32 := k0_pay2 (sxstg m ρ c ix1) (swstg m ρ c ix1)

/-- The rows of the result that slot `o` gives on device `c`. -/
def chunk (c : Dev nD) (o : Dev nD) : FVec F S256x128 .f32 := k0_pay4 (scl m ρ c) (slab m ρ o) (w8 m ρ c)

set_option backward.proofsInPublic true in
/-- The slot a row of the result belongs to, and the place within it. -/
def rowSlot (i : S4096x128.Idx) : Fin 16 := ⟨(i 0).val / 256, by have : (i 0).val < 4096 := (i 0).isLt; omega⟩
set_option backward.proofsInPublic true in
def rowIx (i : S4096x128.Idx) : S256x128.Idx := fun
  | ⟨0, _⟩ => (⟨(i 0).val % 256, Nat.mod_lt _ (by decide)⟩ : Fin 256)
  | ⟨1, _⟩ => (i 1 : Fin 128)

/-- Device `c`'s block of the result. -/
def outAt (c : Dev nD) : (cc0_stg4_0 : Ref sig .tc).ty.Contents (Elt F) := fun i => chunk m ρ c (rowSlot i) (rowIx i)

/-- Elements `S` of device `c`'s gathered activations, holding what they should, at share `q`. -/
def Pts (c : Dev nD) (S : Finset S16x256x4096.Idx) (q : PosShare TreeShare) : sProp 𝕄 :=
  ((c : Thread nD τ).loc cc0_scratch0) ↦[S]{q} gath m ρ
/-- The same holding anything, wholly owned. -/
def Any (c : Dev nD) (S : Finset S16x256x4096.Idx) : sProp 𝕄 :=
  iprop(∃ f : Buf (Elt F) ((c : Thread nD τ).loc cc0_scratch0), ((c : Thread nD τ).loc cc0_scratch0) ↦[S]{fullShare} f)

omit [FloatOps F] in
instance Any_storable (c : Dev nD) (S) : BI.Storable (upEmb : UEmb _ 𝕄) (Any (F := F) c S) := by unfold Any; infer_instance
instance Pts_storable (c : Dev nD) (S q) : BI.Storable (upEmb : UEmb _ 𝕄) (Pts (F := F) m ρ c S q) := by unfold Pts; infer_instance

/-! ## The schedule -/

/-- The share of its source that copy `j` borrows: the left half, except that the second copy of the device's own slot
    takes the left half of what the first one left. -/
def qS (j : Fin 16) : PosShare TreeShare := if j.val = 8 then fullShare.right.left else fullShare.left

/-- What a finished copy `j` gives back to its sender. -/
def sendPay (j : Fin 16) (c : Dev nD) : sProp 𝕄 := Pts m ρ c (rows (sIx j c) (plo j) (phi j)) (qS j)
/-- What a finished copy `j` hands its receiver. -/
def recvPay (j : Fin 16) (c : Dev nD) : sProp 𝕄 := Pts m ρ c (rows (rIx j c) (plo j) (phi j)) fullShare
/-- Where copy `j` of device `c` lands, at its target. -/
def dst (j : Fin 16) (c : Dev nD) : sProp 𝕄 := Any (tgt j c) (rows (sIx j c) (plo j) (phi j))

/-- `Φ` of each member of a list, in order. -/
def chain {I : Type} (Φ : I → sProp 𝕄) : List I → sProp 𝕄
  | [] => iprop(emp)
  | i :: l => iprop(Φ i ∗ chain Φ l)

/-- The copies of one direction. -/
def dir (d : Bool) : List (Fin 16) := if d then [8, 9, 10, 11, 12, 13, 14, 15] else [0, 1, 2, 3, 4, 5, 6, 7]

/-- What the signal of duty `d` of `c`'s barrier hands `c`: where all its copies of direction `d` land. -/
def barPay (d : Bool) (c : Dev nD) : sProp 𝕄 := chain (fun j => dst j c) (dir d)

omit [FloatOps F] in
/-- A chain of storable assertions can be stored in an invariant. -/
theorem chain_storable {I : Type} (Φ : I → sProp 𝕄) [∀ i, BI.Storable (upEmb : UEmb _ 𝕄) (Φ i)] (l : List I) :
    BI.Storable (upEmb : UEmb _ 𝕄) (chain Φ l) := by
  induction l with
  | nil => unfold chain; infer_instance
  | cons i l ih => unfold chain; infer_instance

omit [FloatOps F] in
instance barPay_storable (d : Bool) (c : Dev nD) : BI.Storable (upEmb : UEmb _ 𝕄) (barPay (F := F) d c) := by
  unfold barPay dst; exact chain_storable _ _
instance sendPay_storable (j : Fin 16) (c : Dev nD) : BI.Storable (upEmb : UEmb _ 𝕄) (sendPay (F := F) m ρ j c) := by
  unfold sendPay; infer_instance
instance recvPay_storable (j : Fin 16) (c : Dev nD) : BI.Storable (upEmb : UEmb _ 𝕄) (recvPay (F := F) m ρ j c) := by
  unfold recvPay; infer_instance

/-- The duties of a kind of semaphore: a barrier has one for each direction, the others one. -/
def dutiesOf : Option CI → Finset Bool
  | none => ∅
  | some (.inl _) => {false}
  | some (.inr _) => Finset.univ
def amountOf : Option CI → ℕ
  | some (.inl (.inl j)) => nC j
  | some (.inl (.inr j)) => nC j
  | _ => 1
def payOf (c : Dev nD) (d : Bool) : Option CI → sProp 𝕄
  | none => iprop(emp)
  | some (.inl (.inl j)) => sendPay m ρ j c
  | some (.inl (.inr j)) => recvPay m ρ j c
  | some (.inr _) => barPay d c

/-- One round. -/
def rd : Rounds.Schedule (GSem nD τ sig) Bool 𝕄 where
  duties g r := if r = 0 ∧ g.1.2 = .tc then dutiesOf (kd g.2) else ∅
  unitless _ := False
  amount g _ _ := amountOf (kd g.2)
  payload g _ d := payOf m ρ g.1.1 d (kd g.2)
  amount_pos g _ _ _ := by
    unfold amountOf
    split
    · exact nC_pos _
    · exact nC_pos _
    · exact Nat.one_pos

instance rd_payload_storable (g : GSem nD τ sig) (r : ℕ) (d : Bool) :
    BI.Storable (upEmb : UEmb _ 𝕄) ((rd (F := F) m ρ).payload g r d) := by
  show BI.Storable upEmb (payOf m ρ g.1.1 d (kd g.2))
  unfold payOf
  split <;> infer_instance

section Sched
variable (c : Dev nD) (j : Fin 16)

/-- The barrier has two duties in its one round. -/
theorem duties_bar : (rd (F := F) m ρ).duties (barC c) 0 = Finset.univ := by
  dsimp only [rd]; rw [if_pos ⟨rfl, rfl⟩, kd_bar]; rfl
/-- A send semaphore has one duty. -/
theorem duties_send : (rd (F := F) m ρ).duties (sendC j c) 0 = {false} := by
  dsimp only [rd]; rw [if_pos ⟨rfl, rfl⟩, kd_send]; rfl
/-- A receive semaphore has one duty. -/
theorem duties_recv : (rd (F := F) m ρ).duties (recvC j c) 0 = {false} := by
  dsimp only [rd]; rw [if_pos ⟨rfl, rfl⟩, kd_recv]; rfl
/-- No semaphore has a duty in a later round. -/
theorem duties_later (g : GSem nD τ sig) : ∀ r, 1 ≤ r → (rd (F := F) m ρ).duties g r = ∅ :=
  fun r hr => by dsimp only [rd]; rw [if_neg fun h => by omega]

/-- Each signal of the barrier is one unit. -/
theorem amount_bar (d : Bool) : (rd (F := F) m ρ).amount (barC c) 0 d = 1 := by dsimp only [rd]; rw [kd_bar]; rfl
/-- A send semaphore's duty is the copy's credit. -/
theorem amount_send (d : Bool) : (rd (F := F) m ρ).amount (sendC j c) 0 d = nC j := by dsimp only [rd]; rw [kd_send]; rfl
/-- A receive semaphore's duty is the copy's credit. -/
theorem amount_recv (d : Bool) : (rd (F := F) m ρ).amount (recvC j c) 0 d = nC j := by dsimp only [rd]; rw [kd_recv]; rfl

/-- The barrier expects two units. -/
theorem expect_bar : (rd (F := F) m ρ).expect (barC c) 0 = 2 := by
  unfold Schedule.expect Schedule.amountOf
  rw [duties_bar, Finset.sum_congr rfl fun d _ => amount_bar m ρ c d, Finset.sum_const, Finset.card_univ, Fintype.card_bool, smul_eq_mul]
/-- A send semaphore expects the copy's credit. -/
theorem expect_send : (rd (F := F) m ρ).expect (sendC j c) 0 = nC j := by
  unfold Schedule.expect Schedule.amountOf; rw [duties_send, Finset.sum_singleton, amount_send]
/-- A receive semaphore expects the copy's credit. -/
theorem expect_recv : (rd (F := F) m ρ).expect (recvC j c) 0 = nC j := by
  unfold Schedule.expect Schedule.amountOf; rw [duties_recv, Finset.sum_singleton, amount_recv]

/-- What a signal of the barrier hands over. -/
theorem payload_bar (d : Bool) : (rd (F := F) m ρ).payload (barC c) 0 d = barPay d c := by dsimp only [rd]; rw [kd_bar]; rfl
/-- What the credit of a send semaphore hands over. -/
theorem payload_send (d : Bool) : (rd (F := F) m ρ).payload (sendC j c) 0 d = sendPay m ρ j c := by dsimp only [rd]; rw [kd_send]; rfl
/-- What the credit of a receive semaphore hands over. -/
theorem payload_recv (d : Bool) : (rd (F := F) m ρ).payload (recvC j c) 0 d = recvPay m ρ j c := by dsimp only [rd]; rw [kd_recv]; rfl

/-- What a whole round of each cell hands over. -/
theorem rest_bar : bigSep ((rd (F := F) m ρ).duties (barC c) 0 \ ∅) (fun d => (rd (F := F) m ρ).payload (barC c) 0 d)
    = iprop(barPay false c ∗ barPay true c) := by
  rw [Finset.sdiff_empty, duties_bar, bigSep_univ_eq_bigSepL [false, true] (by decide) (by decide), bigSepL_cons_cons, bigSepL_singleton,
    payload_bar, payload_bar]
  rfl
/-- A wait on a send semaphore takes what its copy gives back. -/
theorem rest_send : bigSep ((rd (F := F) m ρ).duties (sendC j c) 0 \ ∅) (fun d => (rd (F := F) m ρ).payload (sendC j c) 0 d) = sendPay m ρ j c := by
  rw [Finset.sdiff_empty, duties_send, bigSep_singleton, payload_send]
/-- A wait on a receive semaphore takes what its copy brings. -/
theorem rest_recv : bigSep ((rd (F := F) m ρ).duties (recvC j c) 0 \ ∅) (fun d => (rd (F := F) m ρ).payload (recvC j c) 0 d) = recvPay m ρ j c := by
  rw [Finset.sdiff_empty, duties_recv, bigSep_singleton, payload_recv]

end Sched

/-! ## What a device owes; the levels -/

/-- The copies in the order the body starts them, and the order it waits for them. -/
def order : List (Fin 16) := [0, 8, 1, 9, 2, 10, 3, 11, 4, 12, 5, 13, 6, 14, 7, 15]

/-- What device `c` owes for the copies of a list: each one's credit at its target. -/
def owe (c : Dev nD) : List (Fin 16) → CellTallies nD τ sig Unit
  | [] => 0
  | j :: l => owe c l + tallyAt (recvC j (tgt j c)) () (nC j)

/-- At launch: every copy, and a unit at each neighbour's barrier, the left one's paid first. -/
def O₁ (c : Dev nD) : CellTallies nD τ sig Unit := owe c order + tallyAt (barC (rgt c)) () 1
def O₀ (c : Dev nD) : CellTallies nD τ sig Unit := O₁ c + tallyAt (barC (lft c)) () 1

def L (g : GSem nD τ sig) : Finset Unit := if g.1.2 = .tc then {()} else ∅
/-- The barrier at 1, the receive semaphores of round `r` at `2 + r`, everything else at 0. -/
def lv (g : GSem nD τ sig) (_ : Unit) : ℕ := match kd g.2 with
  | some (.inr _) => 1
  | some (.inl (.inr j)) => 2 + j.val % 8
  | _ => 0

/-- Only a main thread has semaphores with levels. -/
theorem L_of_ne (g : GSem nD τ sig) (h : g.1.2 ≠ .tc) : L g = ∅ := if_neg h
/-- Each semaphore of a main thread has its one level. -/
theorem L_tc (c : Dev nD) (sm : SemLoc sig) : L ((c : Thread nD τ), sm) = {()} := if_pos rfl
/-- The level of the barrier. -/
theorem lv_bar (c : Dev nD) : lv (barC c) () = 1 := by unfold lv; rw [kd_bar]
/-- The level of a receive semaphore is its round, above the barrier. -/
theorem lv_recv (j : Fin 16) (c : Dev nD) : lv (recvC j c) () = 2 + j.val % 8 := by unfold lv; rw [kd_recv]
/-- The level of a send semaphore is the lowest. -/
theorem lv_send (j : Fin 16) (c : Dev nD) : lv (sendC j c) () = 0 := by unfold lv; rw [kd_send]

/-- What is owed for copies yet to start is owed at the receive semaphores of their targets. -/
theorem owe_pos {c : Dev nD} {l : List (Fin 16)} {g : GSem nD τ sig} {u : Unit} (h : 0 < owe c l g u) :
    ∃ j ∈ l, g = recvC j (tgt j c) := by
  induction l with
  | nil => exact absurd h (Nat.lt_irrefl 0)
  | cons j l ih =>
    unfold owe at h
    rw [Pi.add_apply, Finsupp.add_apply, tallyAt_apply] at h
    by_cases hg : g = recvC j (tgt j c) ∧ u = ()
    · exact ⟨j, List.mem_cons_self, hg.1⟩
    · rw [if_neg hg, Nat.add_zero] at h
      obtain ⟨j', hj', e⟩ := ih h
      exact ⟨j', List.mem_cons_of_mem _ hj', e⟩

/-- What a device owes at launch is owed at those semaphores or at its neighbours' barriers. -/
theorem O₀_pos {c : Dev nD} {g : GSem nD τ sig} {u : Unit} (h : 0 < O₀ c g u) :
    (∃ j, g = recvC j (tgt j c)) ∨ g = barC (rgt c) ∨ g = barC (lft c) := by
  unfold O₀ O₁ at h
  rw [Pi.add_apply, Finsupp.add_apply, Pi.add_apply, Finsupp.add_apply, tallyAt_apply, tallyAt_apply] at h
  by_cases h1 : g = barC (lft c) ∧ u = ()
  · exact .inr (.inr h1.1)
  by_cases h2 : g = barC (rgt c) ∧ u = ()
  · exact .inr (.inl h2.1)
  rw [if_neg h1, if_neg h2, Nat.add_zero] at h
  obtain ⟨j, _, e⟩ := owe_pos h
  exact .inl ⟨j, e⟩

omit [FloatOps F] in
/-- A staging wait is below everything owed. -/
theorem mayWait_stage (c : Dev nD) (q : DmaSem sig) (hq : q.val < 5) (O : CellTallies nD τ sig Unit) (hO : O = O₀ c ∨ O = 0) :
    (levAts L lv : sProp 𝕄) ⊢ MayWait (c : Thread nD τ) (.dma q) () O := by
  have hk : kd (.dma q) = none := by unfold kd; exact if_pos hq
  rcases hO with rfl | rfl
  · refine MayOwe.of_cut (L := L) (lev := lv) 0 (fun p hp => by rw [Finset.mem_singleton.mp hp, L_tc]; exact Finset.mem_singleton_self _)
      (fun g u hg => by rcases O₀_pos hg with ⟨j, rfl⟩ | rfl | rfl <;> exact Finset.mem_singleton_self _)
      (fun p hp => by rw [Finset.mem_singleton.mp hp]; unfold lv; rw [hk])
      (fun g u hg => by
        rcases O₀_pos hg with ⟨j, rfl⟩ | rfl | rfl
        · rw [lv_recv]; omega
        · rw [lv_bar]; decide
        · rw [lv_bar]; decide)
  · rw [MayWait_zero]; iintro -; iempintro

omit [FloatOps F] in
/-- A wait on a cell below every receive cell of the copies still owed. -/
theorem mayWait_owe (c : Dev nD) (sm : SemLoc sig) (l : List (Fin 16)) (b : ℕ) (hb : lv ((c : Thread nD τ), sm) () ≤ b)
    (hl : ∀ j ∈ l, b < 2 + j.val % 8) : (levAts L lv : sProp 𝕄) ⊢ MayWait (c : Thread nD τ) sm () (owe c l) :=
  MayOwe.of_cut (L := L) (lev := lv) b (fun p hp => by rw [Finset.mem_singleton.mp hp, L_tc]; exact Finset.mem_singleton_self _)
    (fun g u hg => by obtain ⟨j, _, rfl⟩ := owe_pos hg; exact Finset.mem_singleton_self _)
    (fun p hp => by rw [Finset.mem_singleton.mp hp]; exact hb)
    (fun g u hg => by obtain ⟨j, hj, rfl⟩ := owe_pos hg; rw [lv_recv]; exact hl j hj)

end Cert.Gather

end
-- ==== Proof.Regions.lean ====
/-
Where the accesses of the body fall in the gathered activations and in the result, and what they read and write there.
-/
module

public import proofs.«01_k».proof.Proof.Protocol

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- The rectangle of a whole slot, and of a chunk of the result. -/
abbrev slotR (off : Fin 3 → ℕ) (inb : ∀ a, off a + S1x256x4096.size a ≤ S16x256x4096.size a) : Rect S16x256x4096 :=
  Rect.unit (s := S16x256x4096) off S1x256x4096.size inb
abbrev outR (off : Fin 2 → ℕ) (inb : ∀ a, off a + S256x128.size a ≤ S4096x128.size a) : Rect S4096x128 :=
  Rect.unit (s := S4096x128) off S256x128.size inb

/-- The rectangle of a whole slot is the slot's 256 rows. -/
theorem slotR_set (o : Fin 16) {off} (inb) (h : off = ![o.val, 0, 0]) : (slotR off inb).set = rows o 0 256 := by
  subst h
  ext i
  rw [Rect.mem_set_unit, mem_rows, Fin.forall_fin_succ, Fin.forall_fin_succ, Fin.forall_fin_one]
  have h1 : (i 1).val < 256 := (i 1).isLt
  have h2 : (i 2).val < 4096 := (i 2).isLt
  show (o.val ≤ (i 0).val ∧ (i 0).val < o.val + 1) ∧ (0 ≤ (i 1).val ∧ (i 1).val < 0 + 256) ∧ (0 ≤ (i 2).val ∧ (i 2).val < 0 + 4096) ↔ _
  omega

/-- The rectangle of half a slot is 128 of its rows. -/
theorem halfR_set (o : Fin 16) (lo : ℕ) {off} (inb) (h : off = ![o.val, lo, 0]) :
    (Rect.unit (s := S16x256x4096) off S1x128x4096.size inb).set = rows o lo (lo + 128) := by
  subst h
  ext i
  rw [Rect.mem_set_unit, mem_rows, Fin.forall_fin_succ, Fin.forall_fin_succ, Fin.forall_fin_one]
  have h2 : (i 2).val < 4096 := (i 2).isLt
  show (o.val ≤ (i 0).val ∧ (i 0).val < o.val + 1) ∧ (lo ≤ (i 1).val ∧ (i 1).val < lo + 128) ∧ (0 ≤ (i 2).val ∧ (i 2).val < 0 + 4096) ↔ _
  omega

/-- The slot as a copy addresses it is its 256 rows. -/
theorem slotM_set (o : Fin 16) {off} (inb) (h : off = ![o.val, 0, 0]) : (slotM off inb).view.set = rows o 0 256 := by
  rw [← slotR_set o inb h]
  show (((View.whole cc0_scratch0).slice (slotR off inb)).reshape S256x4096 _).set = _
  rw [View.set_reshape, View.set_slice_whole]

/-- Half a slot as a copy addresses it is 128 of its rows. -/
theorem halfM_set (o : Fin 16) (lo : ℕ) {off} (inb) (h : off = ![o.val, lo, 0]) : (halfM off inb).view.set = rows o lo (lo + 128) := by
  rw [← halfR_set o lo inb h]
  show (((View.whole cc0_scratch0).slice _).reshape S128x4096 _).set = _
  rw [View.set_reshape, View.set_slice_whole]

/-- The slot as a load or a store addresses it is its 256 rows. -/
theorem slotA_set (o : Fin 16) {off} (inb) (h : off = ![o.val, 0, 0]) : (xgM.access (slotR off inb)).set = rows o 0 256 := by
  rw [← slotR_set o inb h]
  exact View.set_slice_whole _ _

/-- A copy of the gathered activations leaves the gathered activations. -/
theorem landing {κ : Kind} {sp : Space} {s : Shape} {e : EltTy} (v : View sig κ sp s e) (fd g : v.ty.Contents (Elt F)) :
    ∀ i ∈ v.set, v.write (Elt F) fd (v.read (Elt F) g) Finset.univ i = g i := fun i hi => by
  rw [View.write_read_eq_piecewise]; exact Finset.piecewise_eq_of_mem _ _ _ hi

/-- A load of a slot reads the device's activations. -/
theorem read_slot (o : Fin 16) {off} (inb) (h : off = ![o.val, 0, 0]) :
    (xgM.access (slotR off inb)).read (Elt F) (gath m ρ) = slab m ρ o := by
  subst h
  funext x
  rw [View.read_apply, cast_eq]
  show slab m ρ (((slotR _ inb).idx x) 0) (slabIx ((slotR _ inb).idx x)) = _
  have e0 : ((slotR _ inb).idx x) 0 = o := Fin.ext (by
    show o.val + 1 * (x 0).val = o.val
    have : (x 0).val < 1 := (x 0).isLt
    omega)
  have e1 : slabIx ((slotR _ inb).idx x) = x := by
    funext a
    match a with
    | ⟨0, _⟩ => exact Fin.ext (by have : (x 0).val < 1 := (x 0).isLt; show 0 = (x 0).val; omega)
    | ⟨1, _⟩ => exact Fin.ext (by show 0 + 1 * (x 1).val = (x 1).val; omega)
    | ⟨2, _⟩ => exact Fin.ext (by show 0 + 1 * (x 2).val = (x 2).val; omega)
  rw [e0, e1]

/-- A store of device `o`'s activations into slot `o` leaves there what the gathered activations hold. -/
theorem write_slot (o : Fin 16) {off} (inb) (h : off = ![o.val, 0, 0]) (f : (cc0_scratch0 : Ref sig .tc).ty.Contents (Elt F)) :
    ∀ i ∈ rows o 0 256, (xgM.access (slotR off inb)).write (Elt F) f (slab m ρ o) Finset.univ i = gath m ρ i := fun i hi => by
  rw [← read_slot m ρ o inb h]
  exact landing (F := F) (xgM.access (slotR off inb)) f (gath m ρ) i (by rw [slotA_set o inb h]; exact hi)

/-- An element of the result is in the rows stored for slot `o` when its row belongs to slot `o`. -/
theorem mem_outR (o : Fin 16) {off} (inb) (h : off = ![256 * o.val, 0]) (i : S4096x128.Idx) : i ∈ (oM.access (outR off inb)).set ↔ rowSlot i = o := by
  subst h
  rw [show (oM.access (outR _ inb)).set = (outR _ inb).set from View.set_slice_whole _ _]
  rw [Rect.mem_set_unit, Fin.forall_fin_succ, Fin.forall_fin_one, Fin.ext_iff]
  have h2 : (i 1).val < 128 := (i 1).isLt
  show (256 * o.val ≤ (i 0).val ∧ (i 0).val < 256 * o.val + 256) ∧ (0 ≤ (i 1).val ∧ (i 1).val < 0 + 128) ↔ (i 0).val / 256 = o.val
  omega

/-- The rows of device `c`'s result in slot `o` are the chunk of slot `o`. -/
theorem read_out (c : Dev nD) (o : Fin 16) {off} (inb) (h : off = ![256 * o.val, 0]) :
    (oM.access (outR off inb)).read (Elt F) (outAt m ρ c) = chunk m ρ c o := by
  subst h
  funext x
  rw [View.read_apply, cast_eq]
  show chunk m ρ c (rowSlot ((outR _ inb).idx x)) (rowIx ((outR _ inb).idx x)) = _
  have hx : (x 0).val < 256 := (x 0).isLt
  have e0 : rowSlot ((outR _ inb).idx x) = o := Fin.ext (by
    show (256 * o.val + 1 * (x 0).val) / 256 = o.val
    omega)
  have e1 : rowIx ((outR _ inb).idx x) = x := by
    funext a
    match a with
    | ⟨0, _⟩ => exact Fin.ext (by show (256 * o.val + 1 * (x 0).val) % 256 = (x 0).val; omega)
    | ⟨1, _⟩ => exact Fin.ext (by show 0 + 1 * (x 1).val = (x 1).val; omega)
  rw [e0, e1]

/-- A store of a chunk into its rows leaves the result there and changes nothing else. -/
theorem write_out (c : Dev nD) (o : Fin 16) {off} (inb) (h : off = ![256 * o.val, 0]) (f : (cc0_stg4_0 : Ref sig .tc).ty.Contents (Elt F))
    (i : S4096x128.Idx) :
    (oM.access (outR off inb)).write (Elt F) f (chunk m ρ c o) Finset.univ i = if rowSlot i = o then outAt m ρ c i else f i := by
  rw [← read_out m ρ c o inb h, View.write_read_eq_piecewise]
  by_cases hi : rowSlot i = o
  · rw [if_pos hi]; exact Finset.piecewise_eq_of_mem _ _ _ ((mem_outR o inb h i).mpr hi)
  · rw [if_neg hi]; exact Finset.piecewise_eq_of_notMem _ _ _ (fun h' => hi ((mem_outR o inb h i).mp h'))

/-! ## Splitting and joining -/

/-- A slot is its two halves. -/
theorem rows_halves (o : Fin 16) : rows o 0 256 = rows o 0 128 ∪ rows o 128 256 := by
  ext i; rw [Finset.mem_union, mem_rows, mem_rows, mem_rows]; omega
/-- The two halves of a slot have nothing in common. -/
theorem rows_halves_disjoint (o : Fin 16) : Disjoint (rows o 0 128) (rows o 128 256) :=
  Finset.disjoint_left.mpr fun i h h' => by rw [mem_rows] at h h'; omega
/-- Different slots have nothing in common. -/
theorem rows_disjoint {o o' : Fin 16} (h : o ≠ o') : Disjoint (rows o 0 256) (rows o' 0 256) :=
  Finset.disjoint_left.mpr fun i h1 h2 => by rw [mem_rows] at h1 h2; exact h (Fin.ext (by omega))
/-- The sixteen slots are the whole buffer. -/
theorem rows_cover : (Finset.univ : Finset (Fin 16)).biUnion (fun o => rows o 0 256) = Finset.univ := by
  ext i
  rw [Finset.mem_biUnion]
  exact ⟨fun _ => Finset.mem_univ _, fun _ => ⟨i 0, Finset.mem_univ _, mem_rows.mpr ⟨rfl, Nat.zero_le _, (i 1).isLt⟩⟩⟩

/-- A share is the sum of its two halves. -/
theorem share_lr (q : PosShare TreeShare) : q ∈ PCS.op q.left q.right := by
  rw [PosShare.left_op_right q]; exact Part.mem_some q

/-- A share of some elements is its two halves. -/
theorem Pts_share (c : Dev nD) (S) (q : PosShare TreeShare) : Pts (F := F) m ρ c S q ⊣⊢ iprop(Pts m ρ c S q.left ∗ Pts m ρ c S q.right) := by
  unfold Pts; exact pointsTo_share (share_lr q)
/-- A slot is its upper and its lower half. -/
theorem Pts_halves (c : Dev nD) (o : Fin 16) (q) :
    Pts (F := F) m ρ c (rows o 0 256) q ⊣⊢ iprop(Pts m ρ c (rows o 0 128) q ∗ Pts m ρ c (rows o 128 256) q) := by
  rw [rows_halves o]; unfold Pts; exact pointsTo_union (rows_halves_disjoint o)
omit [FloatOps F] in
/-- Owning a slot is owning its two halves. -/
theorem Any_halves (c : Dev nD) (o : Fin 16) :
    Any (F := F) c (rows o 0 256) ⊢ iprop(Any c (rows o 0 128) ∗ Any c (rows o 128 256)) := by
  unfold Any
  iintro ⟨%f, H⟩
  rw [rows_halves o]
  ihave H' := (pointsTo_union (rows_halves_disjoint o)).1 $$ H
  icases H' with ⟨H1, H2⟩
  isplitl [H1]
  · iexists f; iexact H1
  · iexists f; iexact H2

omit [FloatOps F] in
/-- The whole scratch buffer is its sixteen slots. -/
theorem Any_split (c : Dev nD) (f : Buf (Elt F) ((c : Thread nD τ).loc cc0_scratch0)) :
    (((c : Thread nD τ).loc cc0_scratch0) ↦{fullShare} f : sProp 𝕄) ⊢ bigSep Finset.univ fun o : Fin 16 => Any (F := F) c (rows o 0 256) := by
  have h := pointsTo_biUnion (nD := nD) (τ := τ) (sig := sig) (Ix := Unit) (Val := Elt F) (Name := ℕ) (U := UU) (Lvl := ℕ) (ℓ := (c : Thread nD τ).loc cc0_scratch0) (q := fullShare) (f := f) Finset.univ (fun o : Fin 16 => rows o 0 256)
    fun o _ o' _ hne => rows_disjoint hne
  rw [rows_cover] at h
  rw [h]
  have hA (o : Fin 16) : (((c : Thread nD τ).loc cc0_scratch0) ↦[rows o 0 256]{fullShare} f : sProp 𝕄) ⊢ Any (F := F) c (rows o 0 256) := by
    unfold Any; iintro H; iexists f; iexact H
  exact bigSep_mono fun o _ => hA o

/-- Owning the sixteen slots at what they should hold is owning the whole buffer at it. -/
theorem Pts_join (c : Dev nD) : (bigSep Finset.univ fun o : Fin 16 => Pts (F := F) m ρ c (rows o 0 256) fullShare)
    = (((c : Thread nD τ).loc cc0_scratch0) ↦{fullShare} gath m ρ : sProp 𝕄) := by
  have h := pointsTo_biUnion (nD := nD) (τ := τ) (sig := sig) (Ix := Unit) (Val := Elt F) (Name := ℕ) (U := UU) (Lvl := ℕ) (ℓ := (c : Thread nD τ).loc cc0_scratch0) (q := fullShare) (f := gath m ρ) Finset.univ (fun o : Fin 16 => rows o 0 256)
    fun o _ o' _ hne => rows_disjoint hne
  rw [rows_cover] at h
  exact h.symm

end Cert.Gather

end
-- ==== Proof.Steps.lean ====
/-
What a device holds between two operations of the body, and what each kind of operation makes of it: a copy started, a
landing awaited, a slot or the weights loaded, a chunk of the result stored, a finished copy awaited.
-/
module

public import proofs.«01_k».proof.Proof.Regions

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## Lists of resources -/

omit [FloatOps F] in
/-- A chain over a list of every member, each once, is the product over the type. -/
theorem chain_eq {I : Type} [DecidableEq I] [Fintype I] (Φ : I → sProp 𝕄) (l : List I) (hn : l.Nodup) (hl : ∀ i, i ∈ l) :
    chain Φ l = bigSep Finset.univ Φ := by
  have key : ∀ l : List I, l.Nodup → chain Φ l = bigSep l.toFinset Φ := fun l => by
    induction l with
    | nil => intro _; rw [List.toFinset_nil, bigSep_empty]; rfl
    | cons i l ih =>
      intro h
      rw [List.toFinset_cons, bigSep_insert (by rw [List.mem_toFinset]; exact (List.nodup_cons.mp h).1), ← ih (List.nodup_cons.mp h).2]
      rfl
  rw [key l hn]
  congr 1
  ext i
  rw [List.mem_toFinset]
  exact ⟨fun _ => Finset.mem_univ _, fun _ => hl i⟩

omit [FloatOps F] in
/-- One member of a list, apart, and put back. -/
theorem chain_acc {I : Type} (Φ : I → sProp 𝕄) {i : I} {l : List I} (h : i ∈ l) : chain Φ l ⊢ iprop(Φ i ∗ (Φ i -∗ chain Φ l)) := by
  induction l with
  | nil => exact absurd h List.not_mem_nil
  | cons j l ih =>
    show iprop(Φ j ∗ chain Φ l) ⊢ iprop(Φ i ∗ (Φ i -∗ (Φ j ∗ chain Φ l)))
    by_cases e : i = j
    · subst e
      iintro ⟨Hi, Hl⟩
      isplitl [Hi]; · iexact Hi
      iintro Hi
      isplitl [Hi] <;> iassumption
    · iintro ⟨Hj, Hl⟩
      ihave Hl' := (ih ((List.mem_cons.mp h).resolve_left e)) $$ Hl
      icases Hl' with ⟨Hi, Hw⟩
      isplitl [Hi]; · iexact Hi
      iintro Hi
      isplitl [Hj]; · iexact Hj
      iapply Hw; iexact Hi

omit [FloatOps F] in
/-- Two chains over one list are one chain of pairs. -/
theorem chain_sep {I : Type} (Φ Ψ : I → sProp 𝕄) (l : List I) :
    iprop(chain Φ l ∗ chain Ψ l) ⊢ chain (fun i => iprop(Φ i ∗ Ψ i)) l := by
  induction l with
  | nil =>
    show iprop(emp ∗ emp) ⊢ (emp : sProp 𝕄)
    iintro -; iempintro
  | cons i l ih =>
    show iprop((Φ i ∗ chain Φ l) ∗ (Ψ i ∗ chain Ψ l)) ⊢ iprop((Φ i ∗ Ψ i) ∗ chain (fun i => iprop(Φ i ∗ Ψ i)) l)
    iintro ⟨⟨H1, H2⟩, ⟨H3, H4⟩⟩
    isplitl [H1 H3]
    · isplitl [H1] <;> iassumption
    iapply ih
    isplitl [H2] <;> iassumption

omit [FloatOps F] in
/-- And the other way round. -/
theorem chain_unsep {I : Type} (Φ Ψ : I → sProp 𝕄) (l : List I) :
    chain (fun i => iprop(Φ i ∗ Ψ i)) l ⊢ iprop(chain Φ l ∗ chain Ψ l) := by
  induction l with
  | nil =>
    show (emp : sProp 𝕄) ⊢ iprop(emp ∗ emp)
    iintro -; isplitr <;> iempintro
  | cons i l ih =>
    show iprop((Φ i ∗ Ψ i) ∗ chain (fun i => iprop(Φ i ∗ Ψ i)) l) ⊢ iprop((Φ i ∗ chain Φ l) ∗ (Ψ i ∗ chain Ψ l))
    iintro ⟨⟨H1, H3⟩, H⟩
    ihave H' := ih $$ H
    icases H' with ⟨H2, H4⟩
    isplitl [H1 H2]
    · isplitl [H1] <;> iassumption
    isplitl [H3] <;> iassumption

/-! ## What the launch shares -/

/-- Every cell's invariant, at the names `K`, and that its round 0 is reached. -/
def records (K : Dev nD × CI → ℕ) : sProp 𝕄 :=
  iprop((bigSep Finset.univ fun ck : Dev nD × CI => cellInv ER (rd m ρ) (K ck) (kcell ck))
    ∗ bigSep Finset.univ fun ck : Dev nD × CI => reached ER (kcell ck) 0)

instance records_persistent (K : Dev nD × CI → ℕ) : BI.Persistent (records m ρ K) := by unfold records; infer_instance

/-- The records hold each semaphore's invariant. -/
theorem inv_of (K : Dev nD × CI → ℕ) (ck : Dev nD × CI) : records m ρ K ⊢ cellInv ER (rd m ρ) (K ck) (kcell ck) := by
  unfold records
  refine Laws.sep_elim_left.trans ?_
  exact (bigSep_elim (Φ := fun ck : Dev nD × CI => (cellInv ER (rd m ρ) (K ck) (kcell ck) : sProp 𝕄)) (Finset.mem_univ ck))
/-- The records hold that each semaphore has reached its round. -/
theorem reached_of (K : Dev nD × CI → ℕ) (ck : Dev nD × CI) : records m ρ K ⊢ reached ER (kcell ck) 0 := by
  unfold records
  refine Laws.sep_elim_right.trans ?_
  exact (bigSep_elim (Φ := fun ck : Dev nD × CI => (reached ER (kcell ck) 0 : sProp 𝕄)) (Finset.mem_univ ck))

/-- The invariant's name of a copy's send, of its receive, and of a barrier. -/
abbrev kS (K : Dev nD × CI → ℕ) (j : Fin 16) (c : Dev nD) : ℕ := K (c, .inl (.inl j))
abbrev kR (K : Dev nD × CI → ℕ) (j : Fin 16) (c : Dev nD) : ℕ := K (c, .inl (.inr j))
abbrev kB (K : Dev nD × CI → ℕ) (c : Dev nD) : ℕ := K (c, .inr ())

/-! ## The state between operations -/

/-- What starting copy `j` takes, beside its source: where it lands, and the two duties it pays. -/
def sendRes (c : Dev nD) (j : Fin 16) : sProp 𝕄 :=
  iprop(dst j c ∗ dutyTok ER (sendC j c) 0 false ∗ dutyTok ER (recvC j (tgt j c)) 0 false)
/-- What a started copy leaves with its sender. -/
def sent (c : Dev nD) (j : Fin 16) : sProp 𝕄 := cred (tallyAt (sendC j c) () (nC j))
/-- What awaiting the landing of copy `j` takes, and what it leaves beside the payload. -/
def recvRes (c : Dev nD) (j : Fin 16) : sProp 𝕄 := iprop(cred (tallyAt (recvC j c) () (nC j)) ∗ atPos ER (recvC j c) 0 ∅ 0)
def recvd (c : Dev nD) (j : Fin 16) : sProp 𝕄 := semVal (recvC j c) 0

/-- The slot a kept part `j` is of: the one copy `j` brought, or for `j = 15` the device's own. -/
def keepIx (j : Fin 16) (c : Dev nD) : Fin 16 := if j.val = 15 then c else rIx j c
/-- The share of it that is kept while the copies that pass it on are under way. -/
def keepQ (j : Fin 16) : PosShare TreeShare :=
  if j.val = 15 then fullShare.right.right else if j.val = 7 then fullShare else fullShare.right
/-- The half that the last copy of each direction does not pass on. -/
def keepX (c : Dev nD) (j : Fin 16) : sProp 𝕄 :=
  if j.val = 6 then Pts m ρ c (rows (rIx j c) 128 256) fullShare.left
  else if j.val = 14 then Pts m ρ c (rows (rIx j c) 0 128) fullShare.left
  else iprop(emp)
/-- What stays with the device of slot `keepIx j c`. -/
def keep (c : Dev nD) (j : Fin 16) : sProp 𝕄 := iprop(Pts m ρ c (rows (keepIx j c) 0 256) (keepQ j) ∗ keepX m ρ c j)

/-- The scratch of the weights, holding `g`. -/
def wP (c : Dev nD) (g : Buf (Elt F) ((c : Thread nD τ).loc cc0_scratch1)) : sProp 𝕄 := ((c : Thread nD τ).loc cc0_scratch1) ↦{fullShare} g
/-- The result, right in the slots of `os`. -/
def outP (c : Dev nD) (os : List (Fin 16)) : sProp 𝕄 :=
  iprop(∃ f : Buf (Elt F) ((c : Thread nD τ).loc cc0_stg4_0), ⌜∀ i : S4096x128.Idx, (∃ j ∈ os, keepIx j c = rowSlot i) → f i = outAt m ρ c i⌝
    ∗ (((c : Thread nD τ).loc cc0_stg4_0) ↦{fullShare} f))

/-- Between two operations: copies `ts` still to start and `ds` started, landings `tr` still to await and `dr` awaited, of
    which `hd` not yet passed on; parts `kp` kept; chunks `os` of the result stored. -/
def St (K : Dev nD × CI → ℕ) (c : Dev nD) (ts ds tr dr hd kp os : List (Fin 16)) (g : Buf (Elt F) ((c : Thread nD τ).loc cc0_scratch1)) : sProp 𝕄 :=
  iprop(records m ρ K ∗ levAts L lv ∗ (∃ W, owes (c : Thread nD τ) (owe c ts) W)
    ∗ chain (sendRes c) ts ∗ chain (sent c) ds ∗ chain (recvRes c) tr ∗ chain (recvd c) dr
    ∗ chain (fun j => recvPay m ρ j c) hd ∗ chain (keep m ρ c) kp ∗ outP m ρ c os ∗ wP c g)

/-! ## Passing a slot on -/

/-- What a copy forwards is what the copy of the round before brought. -/
theorem sIx_next : ∀ (j : Fin 16) (c : Dev nD), j.val % 8 ≠ 7 → sIx (j + 1) c = rIx j c := by decide
/-- The first copy of each direction carries the device's own slot. -/
theorem sIx_own : ∀ c : Dev nD, sIx 0 c = c ∧ sIx 8 c = c := by decide
/-- The last copies of the two directions bring the halves of one slot. -/
theorem rIx_meet : ∀ c : Dev nD, rIx 7 c = rIx 15 c := by decide

/-- A slot that landed is what is kept of it and what the next copy borrows. -/
theorem relay (c : Dev nD) (j : Fin 16) (hj : j.val % 8 ≠ 7) :
    recvPay (F := F) m ρ j c ⊣⊢ iprop(keep m ρ c j ∗ sendPay m ρ (j + 1) c) := by
  have h15 : j.val ≠ 15 := fun h => hj (by rw [h])
  have h7 : j.val ≠ 7 := fun h => hj (by rw [h])
  have hn : (j + 1).val = j.val + 1 := by revert j; decide
  have hs : plo j = 0 ∧ phi j = 256 := ⟨if_neg h15, if_neg h7⟩
  have hq : qS (j + 1) = fullShare.left := by unfold qS; rw [hn]; exact if_neg (by omega)
  unfold recvPay sendPay keep keepIx keepQ
  rw [hs.1, hs.2, hq, if_neg h15, if_neg h15, if_neg h7, sIx_next j c hj]
  by_cases h6 : j.val = 6
  · have e : plo (j + 1) = 0 ∧ phi (j + 1) = 128 := by unfold plo phi; rw [hn, h6]; decide
    unfold keepX; rw [if_pos h6, e.1, e.2]
    have hh := Pts_halves (F := F) m ρ c (rIx j c) fullShare.left
    constructor
    · iintro H
      ihave H' := (Pts_share (F := F) m ρ c _ _).1 $$ H
      icases H' with ⟨Hl, Hr⟩
      ihave Hl' := hh.1 $$ Hl
      icases Hl' with ⟨Ht, Hb⟩
      isplitl [Hr Hb]
      · isplitl [Hr] <;> iassumption
      iexact Ht
    · iintro ⟨⟨Hr, Hb⟩, Ht⟩
      iapply (Pts_share (F := F) m ρ c _ _).2
      isplitl [Ht Hb]
      · iapply hh.2; isplitl [Ht] <;> iassumption
      iexact Hr
  · by_cases h14 : j.val = 14
    · have e : plo (j + 1) = 128 ∧ phi (j + 1) = 256 := by unfold plo phi; rw [hn, h14]; decide
      unfold keepX; rw [if_neg h6, if_pos h14, e.1, e.2]
      have hh := Pts_halves (F := F) m ρ c (rIx j c) fullShare.left
      constructor
      · iintro H
        ihave H' := (Pts_share (F := F) m ρ c _ _).1 $$ H
        icases H' with ⟨Hl, Hr⟩
        ihave Hl' := hh.1 $$ Hl
        icases Hl' with ⟨Ht, Hb⟩
        isplitl [Hr Ht]
        · isplitl [Hr] <;> iassumption
        iexact Hb
      · iintro ⟨⟨Hr, Ht⟩, Hb⟩
        iapply (Pts_share (F := F) m ρ c _ _).2
        isplitl [Ht Hb]
        · iapply hh.2; isplitl [Ht] <;> iassumption
        iexact Hr
    · have e : plo (j + 1) = 0 ∧ phi (j + 1) = 256 := by
        unfold plo phi; rw [hn]; exact ⟨if_neg (by omega), if_neg (by omega)⟩
      unfold keepX; rw [if_neg h6, if_neg h14, e.1, e.2]
      constructor
      · iintro H
        ihave H' := (Pts_share (F := F) m ρ c _ _).1 $$ H
        icases H' with ⟨Hl, Hr⟩
        isplitl [Hr]
        · isplitl [Hr]; · iexact Hr
          iempintro
        iexact Hl
      · iintro ⟨⟨Hr, -⟩, Hl⟩
        iapply (Pts_share (F := F) m ρ c _ _).2
        isplitl [Hl] <;> iassumption

/-- The device's own slot is what is kept of it and what its two copies borrow. -/
theorem own_split (c : Dev nD) :
    Pts (F := F) m ρ c (rows c 0 256) fullShare ⊣⊢ iprop(keep m ρ c 15 ∗ sendPay m ρ 0 c ∗ sendPay m ρ 8 c) := by
  have e : plo 0 = 0 ∧ phi 0 = 256 ∧ plo 8 = 0 ∧ phi 8 = 256 := by decide
  have hk : keepIx 15 c = c := if_pos rfl
  have hq : keepQ 15 = fullShare.right.right := if_pos rfl
  have hx : keepX (F := F) m ρ c 15 = iprop(emp) := (if_neg (by decide)).trans (if_neg (by decide))
  have h0 : qS 0 = fullShare.left := if_neg (by decide)
  have h8 : qS 8 = fullShare.right.left := if_pos rfl
  unfold sendPay keep
  rw [hk, hq, hx, h0, h8, (sIx_own c).1, (sIx_own c).2, e.1, e.2.1, e.2.2.1, e.2.2.2]
  constructor
  · iintro H
    ihave H' := (Pts_share (F := F) m ρ c _ _).1 $$ H
    icases H' with ⟨Hl, Hr⟩
    ihave Hr' := (Pts_share (F := F) m ρ c _ _).1 $$ Hr
    icases Hr' with ⟨Hrl, Hrr⟩
    isplitl [Hrr]
    · isplitl [Hrr]; · iexact Hrr
      iempintro
    isplitl [Hl] <;> iassumption
  · iintro ⟨⟨Hrr, -⟩, Hl, Hrl⟩
    iapply (Pts_share (F := F) m ρ c _ _).2
    isplitl [Hl]; · iexact Hl
    iapply (Pts_share (F := F) m ρ c _ _).2
    isplitl [Hrl] <;> iassumption

/-- The two halves that meet make the last slot. -/
theorem meet (c : Dev nD) : iprop(recvPay (F := F) m ρ 15 c ∗ recvPay m ρ 7 c) ⊢ keep m ρ c 7 := by
  have e : plo 7 = 0 ∧ phi 7 = 128 ∧ plo 15 = 128 ∧ phi 15 = 256 := by decide
  have hk : keepIx 7 c = rIx 15 c := (if_neg (by decide)).trans (rIx_meet c)
  have hq : keepQ 7 = fullShare := (if_neg (by decide)).trans (if_pos rfl)
  have hx : keepX (F := F) m ρ c 7 = iprop(emp) := (if_neg (by decide)).trans (if_neg (by decide))
  unfold recvPay keep
  rw [hk, hq, hx, rIx_meet, e.1, e.2.1, e.2.2.1, e.2.2.2]
  iintro ⟨Hb, Ht⟩
  isplitl
  · iapply (Pts_halves (F := F) m ρ c _ _).2
    isplitl [Ht] <;> iassumption
  iempintro

section Ops

variable (K : Dev nD × CI → ℕ) (c : Dev nD)

/-! ## Starting a copy -/

/-- Before the last round a copy's credit is a whole slot's. -/
theorem nC_whole {j : Fin 16} (h : j.val % 8 ≠ 7) : nC j = nW := if_neg h
/-- In the last round it is half a slot's. -/
theorem nC_half {j : Fin 16} (h : j.val % 8 = 7) : nC j = nH := if_pos h
/-- Before the last round a copy carries all 256 rows. -/
theorem part_whole {j : Fin 16} (h : j.val % 8 ≠ 7) : plo j = 0 ∧ phi j = 256 :=
  ⟨if_neg fun e => h (by rw [e]), if_neg fun e => h (by rw [e])⟩

/-- What starting a copy takes out of the state, and what the state is after. -/
theorem send_parts (j : Fin 16) (ts ds tr dr hd kp os : List (Fin 16)) (g : Buf (Elt F) ((c : Thread nD τ).loc cc0_scratch1)) :
    St m ρ K c (j :: ts) ds tr dr hd kp os g
      ⊢ iprop(records m ρ K ∗ dst j c ∗ dutyTok ER (sendC j c) 0 false ∗ dutyTok ER (recvC j (tgt j c)) 0 false
        ∗ (∃ W, owes (c : Thread nD τ) (owe c ts + tallyAt (recvC j (tgt j c)) () (nC j)) W)
        ∗ (∀ W, (cred (tallyAt (sendC j c) () (nC j)) ∗ owes (c : Thread nD τ) (owe c ts) W) -∗ St m ρ K c ts (j :: ds) tr dr hd kp os g)) := by
  unfold St
  iintro ⟨#HR, #HL, ⟨%W, HO⟩, HS, H1, H2, H3, H4, H5, H6, H7⟩
  ihave HS' := (show chain (sendRes (F := F) c) (j :: ts) ⊢ iprop((dst j c ∗ dutyTok ER (sendC j c) 0 false ∗ dutyTok ER (recvC j (tgt j c)) 0 false) ∗ chain (sendRes c) ts)
    from BI.Entails.refl _) $$ HS
  icases HS' with ⟨⟨Hd, Ht1, Ht2⟩, HS⟩
  isplitr; · iexact HR
  isplitl [Hd]; · iexact Hd
  isplitl [Ht1]; · iexact Ht1
  isplitl [Ht2]; · iexact Ht2
  isplitl [HO]; · iexists W; iexact HO
  iintro %W' ⟨Hc, HO⟩
  isplitr; · iexact HR
  isplitr; · iexact HL
  isplitl [HO]; · iexists W'; iexact HO
  isplitl [HS]; · iexact HS
  isplitl [Hc H1]
  · iapply (show iprop(sent c j ∗ chain (sent (F := F) c) ds) ⊢ chain (sent c) (j :: ds) from BI.Entails.refl _)
    isplitl [Hc]; · unfold sent; iexact Hc
    iexact H1
  isplitl [H2]; · iexact H2
  isplitl [H3]; · iexact H3
  isplitl [H4]; · iexact H4
  isplitl [H5]; · iexact H5
  isplitl [H6] <;> iassumption

/-- A copy of a whole slot. -/
theorem step_send (n : Dev nD) (j : Fin 16) (hj : j.val % 8 ≠ 7) (hn : n = tgt j c) {s r : DmaSem sig} (hs : s = sSem j) (hr : r = rSem j)
    {off} {inb} (hoff : off = ![(sIx j c).val, 0, 0]) (ts ds tr dr hd kp os : List (Fin 16)) (g : Buf (Elt F) ((c : Thread nD τ).loc cc0_scratch1))
    {hsc : (slotM off inb : Memref sig (Dev.tc n : Thread nD τ).2.kind .vmem S256x4096 .fp8e5m2).view.ref.isScScratch = false}
    {hsrc : (slotM off inb).view.WordExact} {hdst : (slotM off inb).view.WordExact}
    {hsem : DmaTarget.Typed .vmem (.dma r) (.remote (Dev.tc n : Thread nD τ) (slotM off inb) (.dma s) hsc)}
    {α : Type} {Q : α → sProp 𝕄} {k : PUnit → Prog (TpuEff nD τ sig (Elt F) Λ₀ .tc) α} :
    iprop(St m ρ K c (j :: ts) ds tr dr hd kp os g ∗ sendPay m ρ j c)
      ⊢ iprop((St m ρ K c ts (j :: ds) tr dr hd kp os g -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM off inb) (.remote (Dev.tc n : Thread nD τ) (slotM off inb) (.dma s) hsc) (.dma r) hsrc hdst hsem) k) Q) := by
  subst hn hs hr
  have hset := slotM_set (sIx j c) inb hoff
  obtain ⟨hp1, hp2⟩ := part_whole hj
  iintro ⟨HSt, Hsrc⟩ Hk
  ihave HP := (send_parts m ρ K c j ts ds tr dr hd kp os g) $$ HSt
  icases HP with ⟨#HR, Hd, Ht1, Ht2, ⟨%W, HO⟩, Hback⟩
  unfold dst Any sendPay Pts
  rw [hp1, hp2, ← hset]
  icases Hd with ⟨%fd, Hd⟩
  iapply (Rounds.wp_send_pointsTo 𝒱₀ ER (rd m ρ) (c : Thread nD τ) none (κ₁ := kS K j c) (κ₂ := kR K j (tgt j c))
    (r₁ := 0) (r₂ := 0) (d₁ := false) (d₂ := false) (fd := fd) (q := qS j) (fs := gath m ρ)
    (by rw [duties_send]; exact Finset.mem_singleton_self _) (by rw [duties_recv]; exact Finset.mem_singleton_self _)
    () () (nC j) (by rw [nC_whole hj]; exact credit_slot off inb) (amount_send m ρ c j false) (amount_recv m ρ (tgt j c) j false) (owe c ts) rfl (W := W)
    (by rw [payload_send]; unfold sendPay Pts; rw [hp1, hp2, ← hset])
    (by rw [payload_recv]; unfold recvPay Pts; rw [hp1, hp2, rIx_tgt, ← hset]
        exact Entails.of_eq (pointsTo_congr (landing (F := F) (slotM off inb).view fd (gath m ρ))))) $$ [Hsrc Hd HO Ht1 Ht2]
  · isplitr; · iapply (inv_of m ρ K (c, .inl (.inl j))); iexact HR
    isplitr; · iapply (inv_of m ρ K (tgt j c, .inl (.inr j))); iexact HR
    isplitl [Hsrc]; · iexact Hsrc
    isplitl [Hd]; · iexact Hd
    isplitl [HO]; · iexact HO
    isplitl [Ht1]; · iexact Ht1
    isplitr; · iapply (reached_of m ρ K (c, .inl (.inl j))); iexact HR
    isplitl [Ht2]; · iexact Ht2
    iapply (reached_of m ρ K (tgt j c, .inl (.inr j))); iexact HR
  iintro ⟨Hc, HO⟩
  iapply Hk
  iapply Hback
  isplitl [Hc]; · iexact Hc
  iexact HO

/-- A copy of half a slot, `lo` its first row. -/
theorem step_send_half (n : Dev nD) (j : Fin 16) (lo : ℕ) (hj : j.val % 8 = 7) (hlo : plo j = lo ∧ phi j = lo + 128) (hn : n = tgt j c) {s r : DmaSem sig} (hs : s = sSem j) (hr : r = rSem j)
    {off} {inb} (hoff : off = ![(sIx j c).val, lo, 0]) (ts ds tr dr hd kp os : List (Fin 16)) (g : Buf (Elt F) ((c : Thread nD τ).loc cc0_scratch1))
    {hsc : (halfM off inb : Memref sig (Dev.tc n : Thread nD τ).2.kind .vmem S128x4096 .fp8e5m2).view.ref.isScScratch = false}
    {hsrc : (halfM off inb).view.WordExact} {hdst : (halfM off inb).view.WordExact}
    {hsem : DmaTarget.Typed .vmem (.dma r) (.remote (Dev.tc n : Thread nD τ) (halfM off inb) (.dma s) hsc)}
    {α : Type} {Q : α → sProp 𝕄} {k : PUnit → Prog (TpuEff nD τ sig (Elt F) Λ₀ .tc) α} :
    iprop(St m ρ K c (j :: ts) ds tr dr hd kp os g ∗ sendPay m ρ j c)
      ⊢ iprop((St m ρ K c ts (j :: ds) tr dr hd kp os g -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (halfM off inb) (.remote (Dev.tc n : Thread nD τ) (halfM off inb) (.dma s) hsc) (.dma r) hsrc hdst hsem) k) Q) := by
  subst hn hs hr
  have hset := halfM_set (sIx j c) lo inb hoff
  obtain ⟨hp1, hp2⟩ := hlo
  iintro ⟨HSt, Hsrc⟩ Hk
  ihave HP := (send_parts m ρ K c j ts ds tr dr hd kp os g) $$ HSt
  icases HP with ⟨#HR, Hd, Ht1, Ht2, ⟨%W, HO⟩, Hback⟩
  unfold dst Any sendPay Pts
  rw [hp1, hp2, ← hset]
  icases Hd with ⟨%fd, Hd⟩
  iapply (Rounds.wp_send_pointsTo 𝒱₀ ER (rd m ρ) (c : Thread nD τ) none (κ₁ := kS K j c) (κ₂ := kR K j (tgt j c))
    (r₁ := 0) (r₂ := 0) (d₁ := false) (d₂ := false) (fd := fd) (q := qS j) (fs := gath m ρ)
    (by rw [duties_send]; exact Finset.mem_singleton_self _) (by rw [duties_recv]; exact Finset.mem_singleton_self _)
    () () (nC j) (by rw [nC_half hj]; exact credit_half off inb) (amount_send m ρ c j false) (amount_recv m ρ (tgt j c) j false) (owe c ts) rfl (W := W)
    (by rw [payload_send]; unfold sendPay Pts; rw [hp1, hp2, ← hset])
    (by rw [payload_recv]; unfold recvPay Pts; rw [hp1, hp2, rIx_tgt, ← hset]
        exact Entails.of_eq (pointsTo_congr (landing (F := F) (halfM off inb).view fd (gath m ρ))))) $$ [Hsrc Hd HO Ht1 Ht2]
  · isplitr; · iapply (inv_of m ρ K (c, .inl (.inl j))); iexact HR
    isplitr; · iapply (inv_of m ρ K (tgt j c, .inl (.inr j))); iexact HR
    isplitl [Hsrc]; · iexact Hsrc
    isplitl [Hd]; · iexact Hd
    isplitl [HO]; · iexact HO
    isplitl [Ht1]; · iexact Ht1
    isplitr; · iapply (reached_of m ρ K (c, .inl (.inl j))); iexact HR
    isplitl [Ht2]; · iexact Ht2
    iapply (reached_of m ρ K (tgt j c, .inl (.inr j))); iexact HR
  iintro ⟨Hc, HO⟩
  iapply Hk
  iapply Hback
  isplitl [Hc]; · iexact Hc
  iexact HO

/-- Passing on the slot that copy `j` brought: copy `j + 1`. -/
theorem give (j : Fin 16) (hj : j.val % 8 ≠ 7) (ts ds tr dr hd kp os : List (Fin 16)) (g : Buf (Elt F) ((c : Thread nD τ).loc cc0_scratch1)) :
    St (F := F) m ρ K c ts ds tr dr (j :: hd) kp os g ⊢ iprop(St m ρ K c ts ds tr dr hd (j :: kp) os g ∗ sendPay m ρ (j + 1) c) := by
  unfold St
  iintro ⟨HR, HL, HO, H0, H1, H2, H3, H4, H5, H6, H7⟩
  ihave H4' := (show chain (fun j => recvPay (F := F) m ρ j c) (j :: hd) ⊢ iprop(recvPay m ρ j c ∗ chain (fun j => recvPay m ρ j c) hd)
    from BI.Entails.refl _) $$ H4
  icases H4' with ⟨Hp, H4⟩
  ihave Hp' := (relay (F := F) m ρ c j hj).1 $$ Hp
  icases Hp' with ⟨Hk, Hs⟩
  isplitr [Hs]
  · isplitl [HR]; · iexact HR
    isplitl [HL]; · iexact HL
    isplitl [HO]; · iexact HO
    isplitl [H0]; · iexact H0
    isplitl [H1]; · iexact H1
    isplitl [H2]; · iexact H2
    isplitl [H3]; · iexact H3
    isplitl [H4]; · iexact H4
    isplitl [Hk H5]
    · iapply (show iprop(keep m ρ c j ∗ chain (keep (F := F) m ρ c) kp) ⊢ chain (keep m ρ c) (j :: kp) from BI.Entails.refl _)
      isplitl [Hk] <;> iassumption
    isplitl [H6] <;> iassumption
  iexact Hs

/-- The halves that met are kept as one slot. -/
theorem join (ts ds tr dr kp os : List (Fin 16)) (g : Buf (Elt F) ((c : Thread nD τ).loc cc0_scratch1)) :
    St (F := F) m ρ K c ts ds tr dr [15, 7] kp os g ⊢ St m ρ K c ts ds tr dr [] (7 :: kp) os g := by
  unfold St
  iintro ⟨HR, HL, HO, H0, H1, H2, H3, H4, H5, H6, H7⟩
  ihave H4' := (show chain (fun j => recvPay (F := F) m ρ j c) [15, 7] ⊢ iprop(recvPay m ρ 15 c ∗ recvPay m ρ 7 c ∗ emp)
    from BI.Entails.refl _) $$ H4
  icases H4' with ⟨Hp, Hq, He⟩
  isplitl [HR]; · iexact HR
  isplitl [HL]; · iexact HL
  isplitl [HO]; · iexact HO
  isplitl [H0]; · iexact H0
  isplitl [H1]; · iexact H1
  isplitl [H2]; · iexact H2
  isplitl [H3]; · iexact H3
  isplitl [He]
  · iapply (show (emp : sProp 𝕄) ⊢ chain (fun j => recvPay (F := F) m ρ j c) [] from BI.Entails.refl _); iexact He
  isplitl [Hp Hq H5]
  · iapply (show iprop(keep m ρ c 7 ∗ chain (keep (F := F) m ρ c) kp) ⊢ chain (keep m ρ c) (7 :: kp) from BI.Entails.refl _)
    isplitl [Hp Hq]
    · iapply (meet (F := F) m ρ c)
      isplitl [Hp] <;> iassumption
    iexact H5
  isplitl [H6] <;> iassumption

/-- Copy `j'`, of the slot that copy `j` brought. -/
theorem step_relay (n : Dev nD) (j j' : Fin 16) (hj : j.val % 8 ≠ 7) (hj' : j' = j + 1) (hw : j'.val % 8 ≠ 7) (hn : n = tgt j' c)
    {s r : DmaSem sig} (hs : s = sSem j') (hr : r = rSem j')
    {off} {inb} (hoff : off = ![(sIx j' c).val, 0, 0]) (ts ds tr dr hd kp os : List (Fin 16)) (g : Buf (Elt F) ((c : Thread nD τ).loc cc0_scratch1))
    {hsc : (slotM off inb : Memref sig (Dev.tc n : Thread nD τ).2.kind .vmem S256x4096 .fp8e5m2).view.ref.isScScratch = false}
    {hsrc : (slotM off inb).view.WordExact} {hdst : (slotM off inb).view.WordExact}
    {hsem : DmaTarget.Typed .vmem (.dma r) (.remote (Dev.tc n : Thread nD τ) (slotM off inb) (.dma s) hsc)}
    {α : Type} {Q : α → sProp 𝕄} {k : PUnit → Prog (TpuEff nD τ sig (Elt F) Λ₀ .tc) α} :
    St m ρ K c (j' :: ts) ds tr dr (j :: hd) kp os g
      ⊢ iprop((St m ρ K c ts (j' :: ds) tr dr hd (j :: kp) os g -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM off inb) (.remote (Dev.tc n : Thread nD τ) (slotM off inb) (.dma s) hsc) (.dma r) hsrc hdst hsem) k) Q) := by
  refine (give m ρ K c j hj (j' :: ts) ds tr dr hd kp os g).trans ?_
  subst hj'
  exact step_send m ρ K c n (j + 1) hw hn hs hr hoff ts ds tr dr hd (j :: kp) os g

/-- Copy `j'`, of half the slot that copy `j` brought. -/
theorem step_relay_half (n : Dev nD) (j j' : Fin 16) (hj : j.val % 8 ≠ 7) (hj' : j' = j + 1) (lo : ℕ) (hw : j'.val % 8 = 7) (hlo : plo j' = lo ∧ phi j' = lo + 128) (hn : n = tgt j' c)
    {s r : DmaSem sig} (hs : s = sSem j') (hr : r = rSem j')
    {off} {inb} (hoff : off = ![(sIx j' c).val, lo, 0]) (ts ds tr dr hd kp os : List (Fin 16)) (g : Buf (Elt F) ((c : Thread nD τ).loc cc0_scratch1))
    {hsc : (halfM off inb : Memref sig (Dev.tc n : Thread nD τ).2.kind .vmem S128x4096 .fp8e5m2).view.ref.isScScratch = false}
    {hsrc : (halfM off inb).view.WordExact} {hdst : (halfM off inb).view.WordExact}
    {hsem : DmaTarget.Typed .vmem (.dma r) (.remote (Dev.tc n : Thread nD τ) (halfM off inb) (.dma s) hsc)}
    {α : Type} {Q : α → sProp 𝕄} {k : PUnit → Prog (TpuEff nD τ sig (Elt F) Λ₀ .tc) α} :
    St m ρ K c (j' :: ts) ds tr dr (j :: hd) kp os g
      ⊢ iprop((St m ρ K c ts (j' :: ds) tr dr hd (j :: kp) os g -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (halfM off inb) (.remote (Dev.tc n : Thread nD τ) (halfM off inb) (.dma s) hsc) (.dma r) hsrc hdst hsem) k) Q) := by
  refine (give m ρ K c j hj (j' :: ts) ds tr dr hd kp os g).trans ?_
  subst hj'
  exact step_send_half m ρ K c n (j + 1) lo hw hlo hn hs hr hoff ts ds tr dr hd (j :: kp) os g

/-! ## Awaiting a landing -/

/-- The wait for copy `j`'s landing: everything still owed is owed later. -/
theorem step_recv (j : Fin 16) (ts ds tr dr hd kp os : List (Fin 16)) (g : Buf (Elt F) ((c : Thread nD τ).loc cc0_scratch1)) (hl : ∀ j' ∈ ts, 2 + j.val % 8 < 2 + j'.val % 8)
    {q : DmaSem sig} (hq : q = rSem j) {sp sp' : Space} {s s' : Shape} {e e' : EltTy} {κ' : Kind}
    {v : Memref sig (c : Thread nD τ).2.kind sp' s' e'} {v' : Memref sig κ' sp s e} (hv : v'.view.dmaCredit = nC j)
    {hsrc : v.view.WordExact} {hdst : v'.view.WordExact} {α : Type} {Q : α → sProp 𝕄} {k : PUnit → Prog (TpuEff nD τ sig (Elt F) Λ₀ .tc) α} :
    St m ρ K c ts ds (j :: tr) dr hd kp os g
      ⊢ iprop((St m ρ K c ts ds tr (j :: dr) (j :: hd) kp os g -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q v v' hsrc hdst) k) Q) := by
  subst hq
  unfold St
  iintro ⟨#HR, #HL, ⟨%W, HO⟩, H0, H1, H2, H3, H4, H5, H6, H7⟩ Hk
  ihave H2' := (show chain (recvRes (F := F) c) (j :: tr) ⊢ iprop((cred (tallyAt (recvC j c) () (nC j)) ∗ atPos ER (recvC j c) 0 ∅ 0) ∗ chain (recvRes c) tr)
    from BI.Entails.refl _) $$ H2
  icases H2' with ⟨⟨Hc, Hat⟩, H2⟩
  iapply (Rounds.wp_wait_rest_token 𝒱₀ ER (rd m ρ) (c : Thread nD τ) none (κ := kR K j c) (k' := nC j)
      (fun Kc => by rw [← hv]; exact wpE_waitDma2_eq 𝒱₀ (c : Thread nD τ) none Set.univ Kc) (Set.mem_univ _) () (O := owe c ts) (W := W) (R := 0) (m := 0) (T := ∅)
      (by rw [Nat.zero_add, expect_recv])) $$ [Hc HO Hat]
  · isplitr; · iapply (inv_of m ρ K (c, .inl (.inr j))); iexact HR
    isplitl [Hc]; · iexact Hc
    isplitl [HO]; · iexact HO
    isplitr
    · iapply (mayWait_owe c _ ts (2 + j.val % 8) (le_of_eq (lv_recv j c)) hl); iexact HL
    iexact Hat
  iintro ⟨HO, Hat, -, Hpay⟩
  ihave Hp := (Entails.of_eq (rest_recv m ρ c j)) $$ Hpay
  imod (Rounds.cell_close ER (rd m ρ) (Set.mem_univ (kR K j c)) (fun h => h) (R := 0 + 1) (duties_later m ρ (recvC j c))) $$ [Hat] with Hz
  · isplitr; · iapply (inv_of m ρ K (c, .inl (.inr j))); iexact HR
    iexact Hat
  iapply Hk
  isplitr; · iexact HR
  isplitr; · iexact HL
  isplitl [HO]; · iexists _; iexact HO
  isplitl [H0]; · iexact H0
  isplitl [H1]; · iexact H1
  isplitl [H2]; · iexact H2
  isplitl [Hz H3]
  · iapply (show iprop(semVal (recvC j c) 0 ∗ chain (recvd (F := F) c) dr) ⊢ chain (recvd c) (j :: dr) from BI.Entails.refl _)
    isplitl [Hz] <;> iassumption
  isplitl [Hp H4]
  · iapply (show iprop(recvPay m ρ j c ∗ chain (fun j => recvPay (F := F) m ρ j c) hd) ⊢ chain (fun j => recvPay m ρ j c) (j :: hd) from BI.Entails.refl _)
    isplitl [Hp] <;> iassumption
  isplitl [H5]; · iexact H5
  isplitl [H6] <;> iassumption

/-- The same, for a copy of a whole slot. -/
theorem step_recv_slot (j : Fin 16) (ts ds tr dr hd kp os : List (Fin 16)) (g : Buf (Elt F) ((c : Thread nD τ).loc cc0_scratch1)) (hl : ∀ j' ∈ ts, 2 + j.val % 8 < 2 + j'.val % 8)
    {q : DmaSem sig} (hq : q = rSem j) (hj : j.val % 8 ≠ 7) {off off' : Fin 3 → ℕ} {inb inb'}
        {hsrc : (slotM off inb).view.WordExact} {hdst : (slotM off' inb').view.WordExact} {α : Type} {Q : α → sProp 𝕄} {k : PUnit → Prog (TpuEff nD τ sig (Elt F) Λ₀ .tc) α} :
    St m ρ K c ts ds (j :: tr) dr hd kp os g
      ⊢ iprop((St m ρ K c ts ds tr (j :: dr) (j :: hd) kp os g -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q (slotM off inb) (slotM off' inb') hsrc hdst) k) Q) :=
  step_recv m ρ K c j ts ds tr dr hd kp os g hl hq ((credit_slot off' inb').trans (nC_whole hj).symm)

/-- The same, for a copy of half a slot. -/
theorem step_recv_half (j : Fin 16) (ts ds tr dr hd kp os : List (Fin 16)) (g : Buf (Elt F) ((c : Thread nD τ).loc cc0_scratch1)) (hl : ∀ j' ∈ ts, 2 + j.val % 8 < 2 + j'.val % 8)
    {q : DmaSem sig} (hq : q = rSem j) (hj : j.val % 8 = 7) {off off' : Fin 3 → ℕ} {inb inb'}
        {hsrc : (halfM off inb).view.WordExact} {hdst : (halfM off' inb').view.WordExact} {α : Type} {Q : α → sProp 𝕄} {k : PUnit → Prog (TpuEff nD τ sig (Elt F) Λ₀ .tc) α} :
    St m ρ K c ts ds (j :: tr) dr hd kp os g
      ⊢ iprop((St m ρ K c ts ds tr (j :: dr) (j :: hd) kp os g -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q (halfM off inb) (halfM off' inb') hsrc hdst) k) Q) :=
  step_recv m ρ K c j ts ds tr dr hd kp os g hl hq ((credit_half off' inb').trans (nC_half hj).symm)

/-! ## One chunk of the result -/

/-- A load of a kept slot. -/
theorem step_slot (j : Fin 16) (ts ds tr dr hd kp os : List (Fin 16)) (g : Buf (Elt F) ((c : Thread nD τ).loc cc0_scratch1)) (hj : j ∈ kp) {off} {inb} (hoff : off = ![(keepIx j c).val, 0, 0])
    {hl : (xgM : Memref sig (c : Thread nD τ).2.kind .vmem S16x256x4096 .fp8e5m2).view.LoadsAt (slotR off inb)}
    {α : Type} {Q : α → sProp 𝕄} {k : FVec F S1x256x4096 .fp8e5m2 → Prog (TpuEff nD τ sig (Elt F) Λ₀ .tc) α} :
    St m ρ K c ts ds tr dr hd kp os g
      ⊢ iprop((St m ρ K c ts ds tr dr hd kp os g -∗ wp frame (wpE (defs₀ (F := F)) 𝒱₀ (c : Thread nD τ) none) Set.univ (k (slab m ρ (keepIx j c))) Q)
          -∗ wp frame (wpE (defs₀ (F := F)) 𝒱₀ (c : Thread nD τ) none) Set.univ (.op (.load xgM (slotR off inb) hl) k) Q) := by
  unfold St
  iintro ⟨HR, HL, HO, H0, H1, H2, H3, H4, H5, H6, H7⟩ Hk
  ihave H5' := (chain_acc (keep (F := F) m ρ c) hj) $$ H5
  icases H5' with ⟨Hkp, Hback⟩
  unfold keep
  icases Hkp with ⟨Hp, Hx⟩
  unfold Pts
  rw [← read_slot m ρ (keepIx j c) inb hoff]
  iapply (wp_load_rect 𝒱₀ (c : Thread nD τ) none Set.univ (m := xgM) (r := slotR off inb) (S := rows (keepIx j c) 0 256)
    (subset_of_eq (slotA_set (keepIx j c) inb hoff))) $$ Hp
  iintro Hp
  iapply Hk
  isplitl [HR]; · iexact HR
  isplitl [HL]; · iexact HL
  isplitl [HO]; · iexact HO
  isplitl [H0]; · iexact H0
  isplitl [H1]; · iexact H1
  isplitl [H2]; · iexact H2
  isplitl [H3]; · iexact H3
  isplitl [H4]; · iexact H4
  isplitl [Hback Hp Hx]
  · iapply Hback
    isplitl [Hp] <;> iassumption
  isplitl [H6] <;> iassumption

/-- The origin of a matrix, written two ways. -/
theorem hz : (![0, 0] : Fin 2 → ℕ) = fun _ => 0 := funext fun a => by fin_cases a <;> rfl

/-- A load of the kept weights. -/
theorem step_w8 (ts ds tr dr hd kp os : List (Fin 16)) {inb}
    {hl : (w8M : Memref sig (c : Thread nD τ).2.kind .vmem S4096x128 .fp8e5m2).view.LoadsAt (Rect.unit (s := S4096x128) ![0, 0] S4096x128.size inb)}
    {α : Type} {Q : α → sProp 𝕄} {k : FVec F S4096x128 .fp8e5m2 → Prog (TpuEff nD τ sig (Elt F) Λ₀ .tc) α} :
    St m ρ K c ts ds tr dr hd kp os (w8 m ρ c)
      ⊢ iprop((St m ρ K c ts ds tr dr hd kp os (w8 m ρ c) -∗ wp frame (wpE (defs₀ (F := F)) 𝒱₀ (c : Thread nD τ) none) Set.univ (k (w8 m ρ c)) Q)
          -∗ wp frame (wpE (defs₀ (F := F)) 𝒱₀ (c : Thread nD τ) none) Set.univ
              (.op (.load w8M (Rect.unit (s := S4096x128) ![0, 0] S4096x128.size inb) hl) k) Q) := by
  unfold St wP
  iintro ⟨HR, HL, HO, H0, H1, H2, H3, H4, H5, H6, H7⟩ Hk
  iapply (wp_load 𝒱₀ (c : Thread nD τ) none Set.univ (m := w8M) (Finset.subset_univ _)) $$ H7
  iintro H7
  rw [show (w8M.view.readAt (Elt F) (Rect.unit (s := S4096x128) ![0, 0] S4096x128.size inb : Rect S4096x128) (w8 m ρ c)) = w8 m ρ c from Memref.readAt_unit_zero (Elt F) cc0_scratch1 hz _ _]
  iapply Hk
  isplitl [HR]; · iexact HR
  isplitl [HL]; · iexact HL
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6] <;> iassumption

/-- A load of the result's rows, whatever they hold. -/
theorem step_peek (ts ds tr dr hd kp os : List (Fin 16)) (g : Buf (Elt F) ((c : Thread nD τ).loc cc0_scratch1)) {off} {inb}
    {hl : (oM : Memref sig (c : Thread nD τ).2.kind .vmem S4096x128 .f32).view.LoadsAt (outR off inb)}
    {α : Type} {Q : α → sProp 𝕄} {k : FVec F S256x128 .f32 → Prog (TpuEff nD τ sig (Elt F) Λ₀ .tc) α} :
    St m ρ K c ts ds tr dr hd kp os g
      ⊢ iprop((∀ x, St m ρ K c ts ds tr dr hd kp os g -∗ wp frame (wpE (defs₀ (F := F)) 𝒱₀ (c : Thread nD τ) none) Set.univ (k x) Q)
          -∗ wp frame (wpE (defs₀ (F := F)) 𝒱₀ (c : Thread nD τ) none) Set.univ (.op (.load oM (outR off inb) hl) k) Q) := by
  unfold St outP
  iintro ⟨HR, HL, HO, H0, H1, H2, H3, H4, H5, ⟨%f, %hf, H6⟩, H7⟩ Hk
  iapply (wp_load 𝒱₀ (c : Thread nD τ) none Set.univ (m := oM) (Finset.subset_univ _)) $$ H6
  iintro H6
  iapply Hk
  isplitl [HR]; · iexact HR
  isplitl [HL]; · iexact HL
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]
  · iexists f
    isplitr; · ipureintro; exact hf
    iexact H6
  iexact H7

/-- The store of a chunk. -/
theorem step_chunk (j : Fin 16) (ts ds tr dr hd kp os : List (Fin 16)) (g : Buf (Elt F) ((c : Thread nD τ).loc cc0_scratch1)) {off} {inb} (hoff : off = ![256 * (keepIx j c).val, 0])
    {w : FVec F S256x128 .f32} (hw : w = chunk m ρ c (keepIx j c))
    {hx : (oM.access (outR off inb) : View sig (c : Thread nD τ).2.kind .vmem S256x128 .f32).Stores Finset.univ}
    {hm : (Finset.univ : Finset (outR off inb).shape.Idx) = Finset.univ ∨ ∀ a, (outR off inb).stride a = 1}
    {α : Type} {Q : α → sProp 𝕄} {k : PUnit → Prog (TpuEff nD τ sig (Elt F) Λ₀ .tc) α} :
    St m ρ K c ts ds tr dr hd kp os g
      ⊢ iprop((St m ρ K c ts ds tr dr hd kp (j :: os) g -∗ wp frame (wpE (defs₀ (F := F)) 𝒱₀ (c : Thread nD τ) none) Set.univ (k ⟨⟩) Q)
          -∗ wp frame (wpE (defs₀ (F := F)) 𝒱₀ (c : Thread nD τ) none) Set.univ (.op (.store oM (outR off inb) w Finset.univ hx hm) k) Q) := by
  subst hw
  unfold St outP
  iintro ⟨HR, HL, HO, H0, H1, H2, H3, H4, H5, ⟨%f, %hf, H6⟩, H7⟩ Hk
  iapply (wp_store 𝒱₀ (c : Thread nD τ) none Set.univ (m := oM) (r := outR off inb) (Mk := Finset.univ) (Finset.subset_univ _)) $$ H6
  iintro H6
  iapply Hk
  isplitl [HR]; · iexact HR
  isplitl [HL]; · iexact HL
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]
  · iexists ((oM.access (outR off inb)).write (Elt F) f (chunk m ρ c (keepIx j c)) Finset.univ)
    isplitr
    · ipureintro
      intro i hi
      rw [write_out m ρ c (keepIx j c) inb hoff f i]
      by_cases h : rowSlot i = keepIx j c
      · rw [if_pos h]
      · rw [if_neg h]
        obtain ⟨j', hj', e⟩ := hi
        rcases List.mem_cons.mp hj' with rfl | hj'
        · exact absurd e.symm h
        · exact hf i ⟨j', hj', e⟩
    iexact H6
  iexact H7

/-- A chunk of the result, from the load of its slot to its store. -/
theorem step_block (j : Fin 16) (ts ds tr dr hd kp os : List (Fin 16)) (hj : j ∈ kp)
    {off} {inb} (hoff : off = ![(keepIx j c).val, 0, 0]) {off'} {inb'} (hoff' : off' = ![256 * (keepIx j c).val, 0]) {inw}
    {hl : (xgM : Memref sig (c : Thread nD τ).2.kind .vmem S16x256x4096 .fp8e5m2).view.LoadsAt (slotR off inb)}
    {hlw : (w8M : Memref sig (c : Thread nD τ).2.kind .vmem S4096x128 .fp8e5m2).view.LoadsAt (Rect.unit (s := S4096x128) ![0, 0] S4096x128.size inw)}
    {hlo : (oM : Memref sig (c : Thread nD τ).2.kind .vmem S4096x128 .f32).view.LoadsAt (outR off' inb')}
    {w : FVec F S1x256x4096 .fp8e5m2 → FVec F S4096x128 .fp8e5m2 → FVec F S256x128 .f32} (hw : ∀ x y, w x y = k0_pay4 (scl m ρ c) x y)
    {hx : (oM.access (outR off' inb') : View sig (c : Thread nD τ).2.kind .vmem S256x128 .f32).Stores Finset.univ}
    {hm : (Finset.univ : Finset (outR off' inb').shape.Idx) = Finset.univ ∨ ∀ a, (outR off' inb').stride a = 1}
    {α : Type} {Q : α → sProp 𝕄} {k : PUnit → Prog (TpuEff nD τ sig (Elt F) Λ₀ .tc) α} :
    St m ρ K c ts ds tr dr hd kp os (w8 m ρ c)
      ⊢ iprop((St m ρ K c ts ds tr dr hd kp (j :: os) (w8 m ρ c) -∗ wp frame (wpE (defs₀ (F := F)) 𝒱₀ (c : Thread nD τ) none) Set.univ (k ⟨⟩) Q)
          -∗ wp frame (wpE (defs₀ (F := F)) 𝒱₀ (c : Thread nD τ) none) Set.univ (.op (.load xgM (slotR off inb) hl) fun x : FVec F S1x256x4096 .fp8e5m2 =>
              .op (.load w8M (Rect.unit (s := S4096x128) ![0, 0] S4096x128.size inw) hlw) fun y : FVec F S4096x128 .fp8e5m2 =>
              .op (.load oM (outR off' inb') hlo) fun _ => .op (.store oM (outR off' inb') (w x y) Finset.univ hx hm) k) Q) := by
  iintro HS Hk
  iapply (step_slot m ρ K c j ts ds tr dr hd kp os (w8 m ρ c) hj hoff) $$ HS; iintro HS
  iapply (step_w8 m ρ K c ts ds tr dr hd kp os) $$ HS; iintro HS
  iapply (step_peek m ρ K c ts ds tr dr hd kp os (w8 m ρ c)) $$ HS; iintro %_ HS
  iapply (step_chunk m ρ K c j ts ds tr dr hd kp os (w8 m ρ c) hoff' (hw _ _)) $$ HS
  iexact Hk

/-- A load of the weights' scratch, whatever it holds. -/
theorem step_peekw (ts ds tr dr hd kp os : List (Fin 16)) (g : Buf (Elt F) ((c : Thread nD τ).loc cc0_scratch1)) {inb}
    {hl : (w8M : Memref sig (c : Thread nD τ).2.kind .vmem S4096x128 .fp8e5m2).view.LoadsAt (Rect.unit (s := S4096x128) ![0, 0] S4096x128.size inb)}
    {α : Type} {Q : α → sProp 𝕄} {k : FVec F S4096x128 .fp8e5m2 → Prog (TpuEff nD τ sig (Elt F) Λ₀ .tc) α} :
    St m ρ K c ts ds tr dr hd kp os g
      ⊢ iprop((∀ x, St m ρ K c ts ds tr dr hd kp os g -∗ wp frame (wpE (defs₀ (F := F)) 𝒱₀ (c : Thread nD τ) none) Set.univ (k x) Q)
          -∗ wp frame (wpE (defs₀ (F := F)) 𝒱₀ (c : Thread nD τ) none) Set.univ (.op (.load w8M (Rect.unit (s := S4096x128) ![0, 0] S4096x128.size inb) hl) k) Q) := by
  unfold St wP
  iintro ⟨HR, HL, HO, H0, H1, H2, H3, H4, H5, H6, H7⟩ Hk
  iapply (wp_load 𝒱₀ (c : Thread nD τ) none Set.univ (m := w8M) (Finset.subset_univ _)) $$ H7
  iintro H7
  iapply Hk
  isplitl [HR]; · iexact HR
  isplitl [HL]; · iexact HL
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6] <;> iassumption

/-- The store of the weights. -/
theorem step_setw (ts ds tr dr hd kp os : List (Fin 16)) (g : Buf (Elt F) ((c : Thread nD τ).loc cc0_scratch1)) {inb}
    {w : FVec F S4096x128 .fp8e5m2} (hw : w = w8 m ρ c)
    {hx : (w8M.access (Rect.unit (s := S4096x128) ![0, 0] S4096x128.size inb) : View sig (c : Thread nD τ).2.kind .vmem S4096x128 .fp8e5m2).Stores Finset.univ}
    {hm : (Finset.univ : Finset (Rect.unit (s := S4096x128) ![0, 0] S4096x128.size inb).shape.Idx) = Finset.univ
      ∨ ∀ a, (Rect.unit (s := S4096x128) ![0, 0] S4096x128.size inb).stride a = 1}
    {α : Type} {Q : α → sProp 𝕄} {k : PUnit → Prog (TpuEff nD τ sig (Elt F) Λ₀ .tc) α} :
    St m ρ K c ts ds tr dr hd kp os g
      ⊢ iprop((St m ρ K c ts ds tr dr hd kp os (w8 m ρ c) -∗ wp frame (wpE (defs₀ (F := F)) 𝒱₀ (c : Thread nD τ) none) Set.univ (k ⟨⟩) Q)
          -∗ wp frame (wpE (defs₀ (F := F)) 𝒱₀ (c : Thread nD τ) none) Set.univ (.op (.store w8M (Rect.unit (s := S4096x128) ![0, 0] S4096x128.size inb) w Finset.univ hx hm) k) Q) := by
  subst hw
  unfold St wP
  iintro ⟨HR, HL, HO, H0, H1, H2, H3, H4, H5, H6, H7⟩ Hk
  iapply (wp_store 𝒱₀ (c : Thread nD τ) none Set.univ (m := w8M) (r := Rect.unit (s := S4096x128) ![0, 0] S4096x128.size inb) (Mk := Finset.univ) (Finset.subset_univ _)) $$ H7
  iintro H7
  rw [show ((w8M.access (Rect.unit (s := S4096x128) ![0, 0] S4096x128.size inb) : View sig .tc _ _ _).write (Elt F) g (w8 m ρ c) Finset.univ) = w8 m ρ c
    from Memref.write_access_unit_zero_univ (Elt F) cc0_scratch1 hz _ _ _]
  iapply Hk
  isplitl [HR]; · iexact HR
  isplitl [HL]; · iexact HL
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6] <;> iassumption

/-! ## Awaiting the copies' sources -/

/-- What the last waits work on: copies `ts` to await, `ds` finished. -/
def Fin_ (ts ds : List (Fin 16)) : sProp 𝕄 :=
  iprop(records m ρ K ∗ (∃ W, owes (c : Thread nD τ) 0 W)
    ∗ chain (fun j => iprop(sent (F := F) c j ∗ atPos ER (sendC j c) 0 ∅ 0)) ts
    ∗ chain (fun j => iprop(sendPay m ρ j c ∗ semVal (sendC j c) 0)) ds)

/-- A wait on a send semaphore gives back the share of the source that the copy held. -/
theorem step_done (j : Fin 16) (ts ds : List (Fin 16))
    {q : DmaSem sig} (hq : q = sSem j) {sp sp' : Space} {s s' : Shape} {e e' : EltTy} {κ' : Kind}
    {v : Memref sig (c : Thread nD τ).2.kind sp' s' e'} {v' : Memref sig κ' sp s e} (hv : v'.view.dmaCredit = nC j)
    {hsrc : v.view.WordExact} {hdst : v'.view.WordExact} {α : Type} {Q : α → sProp 𝕄} {k : PUnit → Prog (TpuEff nD τ sig (Elt F) Λ₀ .tc) α} :
    Fin_ m ρ K c (j :: ts) ds
      ⊢ iprop((Fin_ m ρ K c ts (j :: ds) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q v v' hsrc hdst) k) Q) := by
  subst hq
  unfold Fin_
  iintro ⟨#HR, ⟨%W, HO⟩, H1, H2⟩ Hk
  ihave H1' := (show chain (fun j => iprop(sent (F := F) c j ∗ atPos ER (sendC j c) 0 ∅ 0)) (j :: ts)
    ⊢ iprop((cred (tallyAt (sendC j c) () (nC j)) ∗ atPos ER (sendC j c) 0 ∅ 0) ∗ chain (fun j => iprop(sent (F := F) c j ∗ atPos ER (sendC j c) 0 ∅ 0)) ts)
    from BI.Entails.refl _) $$ H1
  icases H1' with ⟨⟨Hc, Hat⟩, H1⟩
  iapply (Rounds.wp_wait_rest_token 𝒱₀ ER (rd m ρ) (c : Thread nD τ) none (κ := kS K j c) (k' := nC j)
      (fun Kc => by rw [← hv]; exact wpE_waitDma2_eq 𝒱₀ (c : Thread nD τ) none Set.univ Kc) (Set.mem_univ _) () (O := 0) (W := W) (R := 0) (m := 0) (T := ∅)
      (by rw [Nat.zero_add, expect_send])) $$ [Hc HO Hat]
  · isplitr; · iapply (inv_of m ρ K (c, .inl (.inl j))); iexact HR
    isplitl [Hc]; · iexact Hc
    isplitl [HO]; · iexact HO
    isplitr; · rw [MayWait_zero]; iempintro
    iexact Hat
  iintro ⟨HO, Hat, -, Hpay⟩
  ihave Hp := (Entails.of_eq (rest_send m ρ c j)) $$ Hpay
  imod (Rounds.cell_close ER (rd m ρ) (Set.mem_univ (kS K j c)) (fun h => h) (R := 0 + 1) (duties_later m ρ (sendC j c))) $$ [Hat] with Hz
  · isplitr; · iapply (inv_of m ρ K (c, .inl (.inl j))); iexact HR
    iexact Hat
  iapply Hk
  isplitr; · iexact HR
  isplitl [HO]; · iexists _; iexact HO
  isplitl [H1]; · iexact H1
  iapply (show iprop((sendPay m ρ j c ∗ semVal (sendC j c) 0) ∗ chain (fun j => iprop(sendPay (F := F) m ρ j c ∗ semVal (sendC j c) 0)) ds)
    ⊢ chain (fun j => iprop(sendPay m ρ j c ∗ semVal (sendC j c) 0)) (j :: ds) from BI.Entails.refl _)
  isplitr [H2]
  · isplitl [Hp] <;> iassumption
  iexact H2

/-- The same, for a copy of a whole slot. -/
theorem step_done_slot (j : Fin 16) (ts ds : List (Fin 16))
    {q : DmaSem sig} (hq : q = sSem j) (hj : j.val % 8 ≠ 7) {off off' : Fin 3 → ℕ} {inb inb'}
        {hsrc : (slotM off inb).view.WordExact} {hdst : (slotM off' inb').view.WordExact} {α : Type} {Q : α → sProp 𝕄} {k : PUnit → Prog (TpuEff nD τ sig (Elt F) Λ₀ .tc) α} :
    Fin_ m ρ K c (j :: ts) ds
      ⊢ iprop((Fin_ m ρ K c ts (j :: ds) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q (slotM off inb) (slotM off' inb') hsrc hdst) k) Q) :=
  step_done m ρ K c j ts ds hq ((credit_slot off' inb').trans (nC_whole hj).symm)

/-- The same, for a copy of half a slot. -/
theorem step_done_half (j : Fin 16) (ts ds : List (Fin 16))
    {q : DmaSem sig} (hq : q = sSem j) (hj : j.val % 8 = 7) {off off' : Fin 3 → ℕ} {inb inb'}
        {hsrc : (halfM off inb).view.WordExact} {hdst : (halfM off' inb').view.WordExact} {α : Type} {Q : α → sProp 𝕄} {k : PUnit → Prog (TpuEff nD τ sig (Elt F) Λ₀ .tc) α} :
    Fin_ m ρ K c (j :: ts) ds
      ⊢ iprop((Fin_ m ρ K c ts (j :: ds) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q (halfM off inb) (halfM off' inb') hsrc hdst) k) Q) :=
  step_done m ρ K c j ts ds hq ((credit_half off' inb').trans (nC_half hj).symm)

end Ops

end Cert.Gather

end
-- ==== Proof.Parts.lean ====
/-
The parts of the body after the barrier, each as it changes what the device holds.
-/
module

public import proofs.«01_k».proof.Proof.Steps

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Where the copies and the chunks are -/

/-- The slot a right-going copy forwards in round `r + 1`, as the program computes it. -/
theorem sIx_right : ∀ (r : Fin 7) (c : Fin 16), (sIx ⟨r.val + 1, by omega⟩ c).val = (c.val + 15 - r.val) % 16 := by decide
/-- The slot a left-going copy forwards in round `r + 1`. -/
theorem sIx_left : ∀ (r : Fin 7) (c : Fin 16), (sIx ⟨r.val + 9, by omega⟩ c).val = (c.val + r.val + 1) % 16 := by decide
/-- The slot kept after the right-going landing of round `r`. -/
theorem keepIx_right : ∀ (r : Fin 7) (c : Fin 16), (keepIx ⟨r.val, by omega⟩ c).val = (c.val + 15 - r.val) % 16 := by decide
/-- The slot kept after the left-going landing of round `r`. -/
theorem keepIx_left : ∀ (r : Fin 7) (c : Fin 16), (keepIx ⟨r.val + 8, by omega⟩ c).val = (c.val + r.val + 1) % 16 := by decide
/-- The device's own slot is kept too. -/
theorem keepIx_own (c : Dev nD) : keepIx 15 c = c := if_pos rfl
/-- The last slot kept is the one halfway round the ring. -/
theorem keepIx_far : ∀ c : Fin 16, (keepIx 7 c).val = (c.val + 8) % 16 := by decide
/-- The slots whose halves are forwarded in the last round. -/
theorem sIx_half : ∀ c : Fin 16, (sIx 7 c).val = (c.val + 9) % 16 ∧ (sIx 15 c).val = (c.val + 7) % 16 := by decide

/-- The printed offset of a right-going copy's slot. -/
theorem off4_s (r : Fin 7) (j : Fin 16) (h : j.val = r.val + 1) (c : Dev nD) : k0_off4 c (BitVec.ofNat 32 r.val) = ![(sIx j c).val, 0, 0] := by
  rw [show j = ⟨r.val + 1, by omega⟩ from Fin.ext h]; rw [sIx_right]; exact k0_off4_eq c r
/-- The printed offset of a left-going copy's slot. -/
theorem off5_s (r : Fin 7) (j : Fin 16) (h : j.val = r.val + 9) (c : Dev nD) : k0_off5 c (BitVec.ofNat 32 r.val) = ![(sIx j c).val, 0, 0] := by
  rw [show j = ⟨r.val + 9, by omega⟩ from Fin.ext h]; rw [sIx_left]; exact k0_off5_eq c r
/-- The printed offset of the first copies' slot. -/
theorem off2_s (c : Dev nD) : k0_off2 c = ![(sIx 0 c).val, 0, 0] ∧ k0_off2 c = ![(sIx 8 c).val, 0, 0] := by
  rw [(sIx_own c).1, (sIx_own c).2]; exact ⟨k0_off2_eq c, k0_off2_eq c⟩
/-- The printed offset of the upper half that goes right in the last round. -/
theorem off10_s (c : Dev nD) : k0_off10 c = ![(sIx 7 c).val, 0, 0] := by rw [(sIx_half c).1]; exact k0_off10_eq c
/-- The printed offset of the lower half that goes left in the last round. -/
theorem off11_s (c : Dev nD) : k0_off11 c = ![(sIx 15 c).val, 128, 0] := by rw [(sIx_half c).2]; exact k0_off11_eq c
/-- The printed offset at which the device stores its own slot. -/
theorem off1_k (c : Dev nD) : k0_off1 c = ![(keepIx 15 c).val, 0, 0] := by rw [keepIx_own]; exact k0_off1_eq c
/-- The printed offset of the device's own rows of the result. -/
theorem off3_k (c : Dev nD) : k0_off3 c = ![256 * (keepIx 15 c).val, 0] := by rw [keepIx_own]; exact k0_off3_eq c
/-- The printed offset of the last slot. -/
theorem off14_k (c : Dev nD) : k0_off14 c = ![(keepIx 7 c).val, 0, 0] := by rw [keepIx_far]; exact k0_off14_eq c
/-- The printed offset of the last slot's rows of the result. -/
theorem off15_k (c : Dev nD) : k0_off15 c = ![256 * (keepIx 7 c).val, 0] := by rw [keepIx_far]; exact k0_off15_eq c
/-- The printed offset of the slot that came from the left in round `r`. -/
theorem off6_k (r : Fin 7) (j : Fin 16) (h : j.val = r.val) (c : Dev nD) : k0_off6 c (BitVec.ofNat 32 r.val) = ![(keepIx j c).val, 0, 0] := by
  rw [show j = ⟨r.val, by omega⟩ from Fin.ext h]; rw [keepIx_right]; exact k0_off6_eq c r
/-- The printed offset of that slot's rows of the result. -/
theorem off7_k (r : Fin 7) (j : Fin 16) (h : j.val = r.val) (c : Dev nD) : k0_off7 c (BitVec.ofNat 32 r.val) = ![256 * (keepIx j c).val, 0] := by
  rw [show j = ⟨r.val, by omega⟩ from Fin.ext h]; rw [keepIx_right]; exact k0_off7_eq c r
/-- The printed offset of the slot that came from the right in round `r`. -/
theorem off8_k (r : Fin 7) (j : Fin 16) (h : j.val = r.val + 8) (c : Dev nD) : k0_off8 c (BitVec.ofNat 32 r.val) = ![(keepIx j c).val, 0, 0] := by
  rw [show j = ⟨r.val + 8, by omega⟩ from Fin.ext h]; rw [keepIx_left]; exact k0_off8_eq c r
/-- The printed offset of that slot's rows of the result. -/
theorem off9_k (r : Fin 7) (j : Fin 16) (h : j.val = r.val + 8) (c : Dev nD) : k0_off9 c (BitVec.ofNat 32 r.val) = ![256 * (keepIx j c).val, 0] := by
  rw [show j = ⟨r.val + 8, by omega⟩ from Fin.ext h]; rw [keepIx_left]; exact k0_off9_eq c r

section Parts

variable (K : Dev nD × CI → ℕ) (c : Dev nD)

/-- Part 3: copy 0 has landed, copy 1 starts. -/
theorem part3 (ds tr dr kp os : List (Fin 16)) (a₁ a₂ a₃ a₄ a₅ : BitVec 32) {Q : _ → sProp 𝕄} :
    St m ρ K c [1, 9, 2, 10, 3, 11, 4, 12, 5, 13, 6, 14, 7, 15] ds (0 :: tr) dr [] kp os (w8 m ρ c)
      ⊢ iprop((∀ a b, St m ρ K c [9, 2, 10, 3, 11, 4, 12, 5, 13, 6, 14, 7, 15] (1 :: ds) tr (0 :: dr) [] (0 :: kp) os (w8 m ρ c) -∗ Q ⟨a, b⟩)
          -∗ wp frame (wpE (defs₀ (F := F)) 𝒱₀ (c : Thread nD τ) none) Set.univ (k0_part3 xM (Memref.isWhole_whole _) wM (Memref.isWhole_whole _) sxM (Memref.isWhole_whole _) swM (Memref.isWhole_whole _) oM (Memref.isWhole_whole _) xgM (Memref.isWhole_whole _) w8M (Memref.isWhole_whole _) cc0_scratch2 cc0_scratch3 cc0_scratch4 cc0_scratch5 c a₁ a₂ a₃ a₄ a₅) Q) := by
  rw [k0_part3_eq_skeleton]; unfold k0_part3_skel
  simp only [Prog.lift, Prog.bind_op, Prog.bind_ret, Prog.pure_eq_ret]
  iintro HS Hk
  iapply (step_recv_slot m ρ K c 0 [1, 9, 2, 10, 3, 11, 4, 12, 5, 13, 6, 14, 7, 15] _ _ _ _ _ _ _ (by decide) rfl (by decide)) $$ HS; iintro HS
  iapply (step_relay m ρ K c _ 0 1 (by decide) rfl (by decide) (Fin.ext (k0_dev5_eq c)) rfl rfl (off4_s 0 1 rfl c) _ _ _ _ _ _ _ _) $$ HS; iintro HS
  rw [wp_ret]; imodintro
  iapply Hk $$ HS

/-- Part 4: copy 8 has landed, copy 9 starts, the rows that copy 0 brought are stored. -/
theorem part4 (ds tr dr kp os : List (Fin 16)) (a₁ a₂ a₃ : BitVec 32) {Q : _ → sProp 𝕄} :
    St m ρ K c [9, 2, 10, 3, 11, 4, 12, 5, 13, 6, 14, 7, 15] ds (8 :: tr) dr [] (0 :: kp) os (w8 m ρ c)
      ⊢ iprop((∀ b, St m ρ K c [2, 10, 3, 11, 4, 12, 5, 13, 6, 14, 7, 15] (9 :: ds) tr (8 :: dr) [] (8 :: 0 :: kp) (0 :: os) (w8 m ρ c) -∗ Q ⟨k0_pay6 (scl m ρ c) (slab m ρ (keepIx 8 c)) (w8 m ρ c), b⟩)
          -∗ wp frame (wpE (defs₀ (F := F)) 𝒱₀ (c : Thread nD τ) none) Set.univ (k0_part4 xM (Memref.isWhole_whole _) wM (Memref.isWhole_whole _) sxM (Memref.isWhole_whole _) swM (Memref.isWhole_whole _) oM (Memref.isWhole_whole _) xgM (Memref.isWhole_whole _) w8M (Memref.isWhole_whole _) cc0_scratch2 cc0_scratch3 cc0_scratch4 cc0_scratch5 c a₁ (scl m ρ c) a₂ a₃) Q) := by
  rw [k0_part4_eq_skeleton]; unfold k0_part4_skel
  simp only [Prog.lift, Prog.bind_op, Prog.bind_ret, Prog.pure_eq_ret]
  iintro HS Hk
  iapply (step_recv_slot m ρ K c 8 [9, 2, 10, 3, 11, 4, 12, 5, 13, 6, 14, 7, 15] _ _ _ _ _ _ _ (by decide) rfl (by decide)) $$ HS; iintro HS
  iapply (step_relay m ρ K c _ 8 9 (by decide) rfl (by decide) (Fin.ext (k0_dev6_eq c)) rfl rfl (off5_s 0 9 rfl c) _ _ _ _ _ _ _ _) $$ HS; iintro HS
  iapply (step_block m ρ K c 0 _ _ _ _ _ _ _ (by simp) (off6_k 0 0 rfl c) (off7_k 0 0 rfl c) (fun _ _ => rfl)) $$ HS; iintro HS
  iapply (step_slot m ρ K c 8 _ _ _ _ _ _ _ _ (by simp) (off8_k 0 8 rfl c)) $$ HS; iintro HS
  iapply (step_w8 m ρ K c _ _ _ _ _ _ _) $$ HS; iintro HS
  rw [wp_ret]; imodintro
  iapply Hk $$ HS

/-- Part 5: copy 1 has landed, copy 2 starts, the rows that copy 8 brought are stored. -/
theorem part5 (ds tr dr kp os : List (Fin 16)) (a₁ a₂ a₃ a₄ a₅ : BitVec 32) {Q : _ → sProp 𝕄} :
    St m ρ K c [2, 10, 3, 11, 4, 12, 5, 13, 6, 14, 7, 15] ds (1 :: tr) dr [] kp os (w8 m ρ c)
      ⊢ iprop((∀ a b d e, St m ρ K c [10, 3, 11, 4, 12, 5, 13, 6, 14, 7, 15] (2 :: ds) tr (1 :: dr) [] (1 :: kp) (8 :: os) (w8 m ρ c) -∗ Q ⟨a, b, d, e⟩)
          -∗ wp frame (wpE (defs₀ (F := F)) 𝒱₀ (c : Thread nD τ) none) Set.univ (k0_part5 xM (Memref.isWhole_whole _) wM (Memref.isWhole_whole _) sxM (Memref.isWhole_whole _) swM (Memref.isWhole_whole _) oM (Memref.isWhole_whole _) xgM (Memref.isWhole_whole _) w8M (Memref.isWhole_whole _) cc0_scratch2 cc0_scratch3 cc0_scratch4 cc0_scratch5 c a₁ a₂ a₃ a₄ (k0_pay6 (scl m ρ c) (slab m ρ (keepIx 8 c)) (w8 m ρ c)) a₅) Q) := by
  rw [k0_part5_eq_skeleton]; unfold k0_part5_skel
  simp only [Prog.lift, Prog.bind_op, Prog.bind_ret, Prog.pure_eq_ret]
  iintro HS Hk
  iapply (step_peek m ρ K c _ _ _ _ _ _ _ _) $$ HS; iintro %_ HS
  iapply (step_chunk m ρ K c 8 _ _ _ _ _ _ _ _ (off9_k 0 8 rfl c) rfl) $$ HS; iintro HS
  iapply (step_recv_slot m ρ K c 1 [2, 10, 3, 11, 4, 12, 5, 13, 6, 14, 7, 15] _ _ _ _ _ _ _ (by decide) rfl (by decide)) $$ HS; iintro HS
  iapply (step_relay m ρ K c _ 1 2 (by decide) rfl (by decide) (Fin.ext (k0_dev7_eq c)) rfl rfl (off4_s 1 2 rfl c) _ _ _ _ _ _ _ _) $$ HS; iintro HS
  rw [wp_ret]; imodintro
  iapply Hk $$ HS

/-- Part 6: copy 9 has landed, copy 10 starts, the rows that copy 1 brought are stored. -/
theorem part6 (ds tr dr kp os : List (Fin 16)) (a₁ a₂ a₃ a₄ a₅ : BitVec 32) {Q : _ → sProp 𝕄} :
    St m ρ K c [10, 3, 11, 4, 12, 5, 13, 6, 14, 7, 15] ds (9 :: tr) dr [] (1 :: kp) os (w8 m ρ c)
      ⊢ iprop((St m ρ K c [3, 11, 4, 12, 5, 13, 6, 14, 7, 15] (10 :: ds) tr (9 :: dr) [] (9 :: 1 :: kp) (1 :: os) (w8 m ρ c) -∗ Q ⟨k0_pay8 (slab m ρ (keepIx 9 c)), w8 m ρ c⟩)
          -∗ wp frame (wpE (defs₀ (F := F)) 𝒱₀ (c : Thread nD τ) none) Set.univ (k0_part6 xM (Memref.isWhole_whole _) wM (Memref.isWhole_whole _) sxM (Memref.isWhole_whole _) swM (Memref.isWhole_whole _) oM (Memref.isWhole_whole _) xgM (Memref.isWhole_whole _) w8M (Memref.isWhole_whole _) cc0_scratch2 cc0_scratch3 cc0_scratch4 cc0_scratch5 c a₁ (scl m ρ c) a₂ a₃ a₄ a₅) Q) := by
  rw [k0_part6_eq_skeleton]; unfold k0_part6_skel
  simp only [Prog.lift, Prog.bind_op, Prog.bind_ret, Prog.pure_eq_ret]
  iintro HS Hk
  iapply (step_recv_slot m ρ K c 9 [10, 3, 11, 4, 12, 5, 13, 6, 14, 7, 15] _ _ _ _ _ _ _ (by decide) rfl (by decide)) $$ HS; iintro HS
  iapply (step_relay m ρ K c _ 9 10 (by decide) rfl (by decide) (Fin.ext (k0_dev8_eq c)) rfl rfl (off5_s 1 10 rfl c) _ _ _ _ _ _ _ _) $$ HS; iintro HS
  iapply (step_block m ρ K c 1 _ _ _ _ _ _ _ (by simp) (off6_k 1 1 rfl c) (off7_k 1 1 rfl c) (fun _ _ => rfl)) $$ HS; iintro HS
  iapply (step_slot m ρ K c 9 _ _ _ _ _ _ _ _ (by simp) (off8_k 1 9 rfl c)) $$ HS; iintro HS
  iapply (step_w8 m ρ K c _ _ _ _ _ _ _) $$ HS; iintro HS
  rw [wp_ret]; imodintro
  iapply Hk $$ HS

/-- Part 7: copy 2 has landed, the rows that copy 9 brought are stored. -/
theorem part7 (ds tr dr kp os : List (Fin 16)) (a₁ a₂ a₃ : BitVec 32) {Q : _ → sProp 𝕄} :
    St m ρ K c [3, 11, 4, 12, 5, 13, 6, 14, 7, 15] ds (2 :: tr) dr [] kp os (w8 m ρ c)
      ⊢ iprop((∀ a b, St m ρ K c [3, 11, 4, 12, 5, 13, 6, 14, 7, 15] ds tr (2 :: dr) [2] kp (9 :: os) (w8 m ρ c) -∗ Q ⟨a, b⟩)
          -∗ wp frame (wpE (defs₀ (F := F)) 𝒱₀ (c : Thread nD τ) none) Set.univ (k0_part7 xM (Memref.isWhole_whole _) wM (Memref.isWhole_whole _) sxM (Memref.isWhole_whole _) swM (Memref.isWhole_whole _) oM (Memref.isWhole_whole _) xgM (Memref.isWhole_whole _) w8M (Memref.isWhole_whole _) cc0_scratch2 cc0_scratch3 cc0_scratch4 cc0_scratch5 c a₁ a₂ (scl m ρ c) a₃ (k0_pay8 (slab m ρ (keepIx 9 c))) (w8 m ρ c)) Q) := by
  rw [k0_part7_eq_skeleton]; unfold k0_part7_skel
  simp only [Prog.lift, Prog.bind_op, Prog.bind_ret, Prog.pure_eq_ret]
  iintro HS Hk
  iapply (step_peek m ρ K c _ _ _ _ _ _ _ _) $$ HS; iintro %_ HS
  iapply (step_chunk m ρ K c 9 _ _ _ _ _ _ _ _ (off9_k 1 9 rfl c) rfl) $$ HS; iintro HS
  iapply (step_recv_slot m ρ K c 2 [3, 11, 4, 12, 5, 13, 6, 14, 7, 15] _ _ _ _ _ _ _ (by decide) rfl (by decide)) $$ HS; iintro HS
  rw [wp_ret]; imodintro
  iapply Hk $$ HS

/-- Part 8: copy 10 has landed, copies 3 and 11 start, the rows that copy 2 brought are stored. -/
theorem part8 (ds tr dr kp os : List (Fin 16)) (a₁ a₂ : BitVec 32) {Q : _ → sProp 𝕄} :
    St m ρ K c [3, 11, 4, 12, 5, 13, 6, 14, 7, 15] ds (10 :: tr) dr [2] kp os (w8 m ρ c)
      ⊢ iprop((St m ρ K c [4, 12, 5, 13, 6, 14, 7, 15] (11 :: 3 :: ds) tr (10 :: dr) [] (10 :: 2 :: kp) (2 :: os) (w8 m ρ c) -∗ Q ⟨⟩)
          -∗ wp frame (wpE (defs₀ (F := F)) 𝒱₀ (c : Thread nD τ) none) Set.univ (k0_part8 xM (Memref.isWhole_whole _) wM (Memref.isWhole_whole _) sxM (Memref.isWhole_whole _) swM (Memref.isWhole_whole _) oM (Memref.isWhole_whole _) xgM (Memref.isWhole_whole _) w8M (Memref.isWhole_whole _) cc0_scratch2 cc0_scratch3 cc0_scratch4 cc0_scratch5 c a₁ (scl m ρ c) a₂) Q) := by
  rw [k0_part8_eq_skeleton]; unfold k0_part8_skel
  simp only [Prog.lift, Prog.bind_op, Prog.bind_ret, Prog.pure_eq_ret]
  iintro HS Hk
  iapply (step_relay m ρ K c _ 2 3 (by decide) rfl (by decide) (Fin.ext (k0_dev9_eq c)) rfl rfl (off4_s 2 3 rfl c) _ _ _ _ _ _ _ _) $$ HS; iintro HS
  iapply (step_recv_slot m ρ K c 10 [11, 4, 12, 5, 13, 6, 14, 7, 15] _ _ _ _ _ _ _ (by decide) rfl (by decide)) $$ HS; iintro HS
  iapply (step_relay m ρ K c _ 10 11 (by decide) rfl (by decide) (Fin.ext (k0_dev10_eq c)) rfl rfl (off5_s 2 11 rfl c) _ _ _ _ _ _ _ _) $$ HS; iintro HS
  iapply (step_block m ρ K c 2 _ _ _ _ _ _ _ (by simp) (off6_k 2 2 rfl c) (off7_k 2 2 rfl c) (fun _ _ => rfl)) $$ HS; iintro HS
  rw [wp_ret]; imodintro
  iapply Hk $$ HS

/-- Part 9: copy 3 has landed, the rows that copy 10 brought are stored. -/
theorem part9 (ds tr dr kp os : List (Fin 16)) (a₁ a₂ a₃ : BitVec 32) {Q : _ → sProp 𝕄} :
    St m ρ K c [4, 12, 5, 13, 6, 14, 7, 15] ds (3 :: tr) dr [] (10 :: kp) os (w8 m ρ c)
      ⊢ iprop((∀ a b, St m ρ K c [4, 12, 5, 13, 6, 14, 7, 15] ds tr (3 :: dr) [3] (10 :: kp) (10 :: os) (w8 m ρ c) -∗ Q ⟨a, b⟩)
          -∗ wp frame (wpE (defs₀ (F := F)) 𝒱₀ (c : Thread nD τ) none) Set.univ (k0_part9 xM (Memref.isWhole_whole _) wM (Memref.isWhole_whole _) sxM (Memref.isWhole_whole _) swM (Memref.isWhole_whole _) oM (Memref.isWhole_whole _) xgM (Memref.isWhole_whole _) w8M (Memref.isWhole_whole _) cc0_scratch2 cc0_scratch3 cc0_scratch4 cc0_scratch5 c a₁ a₂ (scl m ρ c) a₃) Q) := by
  rw [k0_part9_eq_skeleton]; unfold k0_part9_skel
  simp only [Prog.lift, Prog.bind_op, Prog.bind_ret, Prog.pure_eq_ret]
  iintro HS Hk
  iapply (step_block m ρ K c 10 _ _ _ _ _ _ _ (by simp) (off8_k 2 10 rfl c) (off9_k 2 10 rfl c) (fun _ _ => rfl)) $$ HS; iintro HS
  iapply (step_recv_slot m ρ K c 3 [4, 12, 5, 13, 6, 14, 7, 15] _ _ _ _ _ _ _ (by decide) rfl (by decide)) $$ HS; iintro HS
  rw [wp_ret]; imodintro
  iapply Hk $$ HS

/-- Part 10: copy 11 has landed, copies 4 and 12 start. -/
theorem part10 (ds tr dr kp os : List (Fin 16)) (a₁ a₂ : BitVec 32) {Q : _ → sProp 𝕄} :
    St m ρ K c [4, 12, 5, 13, 6, 14, 7, 15] ds (11 :: tr) dr [3] kp os (w8 m ρ c)
      ⊢ iprop((St m ρ K c [5, 13, 6, 14, 7, 15] (12 :: 4 :: ds) tr (11 :: dr) [] (11 :: 3 :: kp) os (w8 m ρ c) -∗ Q ⟨k0_pay12 (scl m ρ c) (slab m ρ (keepIx 3 c)) (w8 m ρ c), Scalar.ofBits .f32 0x00000000#32⟩)
          -∗ wp frame (wpE (defs₀ (F := F)) 𝒱₀ (c : Thread nD τ) none) Set.univ (k0_part10 xM (Memref.isWhole_whole _) wM (Memref.isWhole_whole _) sxM (Memref.isWhole_whole _) swM (Memref.isWhole_whole _) oM (Memref.isWhole_whole _) xgM (Memref.isWhole_whole _) w8M (Memref.isWhole_whole _) cc0_scratch2 cc0_scratch3 cc0_scratch4 cc0_scratch5 c a₁ (scl m ρ c) a₂) Q) := by
  rw [k0_part10_eq_skeleton]; unfold k0_part10_skel
  simp only [Prog.lift, Prog.bind_op, Prog.bind_ret, Prog.pure_eq_ret]
  iintro HS Hk
  iapply (step_relay m ρ K c _ 3 4 (by decide) rfl (by decide) (Fin.ext (k0_dev11_eq c)) rfl rfl (off4_s 3 4 rfl c) _ _ _ _ _ _ _ _) $$ HS; iintro HS
  iapply (step_recv_slot m ρ K c 11 [12, 5, 13, 6, 14, 7, 15] _ _ _ _ _ _ _ (by decide) rfl (by decide)) $$ HS; iintro HS
  iapply (step_relay m ρ K c _ 11 12 (by decide) rfl (by decide) (Fin.ext (k0_dev12_eq c)) rfl rfl (off5_s 3 12 rfl c) _ _ _ _ _ _ _ _) $$ HS; iintro HS
  iapply (step_slot m ρ K c 3 _ _ _ _ _ _ _ _ (by simp) (off6_k 3 3 rfl c)) $$ HS; iintro HS
  iapply (step_w8 m ρ K c _ _ _ _ _ _ _) $$ HS; iintro HS
  rw [wp_ret]; imodintro
  iapply Hk $$ HS

/-- Part 11: copy 4 has landed, the rows that copies 3 and 11 brought are stored. -/
theorem part11 (ds tr dr kp os : List (Fin 16)) (a₁ a₂ a₃ a₄ : BitVec 32) {Q : _ → sProp 𝕄} :
    St m ρ K c [5, 13, 6, 14, 7, 15] ds (4 :: tr) dr [] (11 :: kp) os (w8 m ρ c)
      ⊢ iprop((∀ a b, St m ρ K c [5, 13, 6, 14, 7, 15] ds tr (4 :: dr) [4] (11 :: kp) (11 :: 3 :: os) (w8 m ρ c) -∗ Q ⟨a, b⟩)
          -∗ wp frame (wpE (defs₀ (F := F)) 𝒱₀ (c : Thread nD τ) none) Set.univ (k0_part11 xM (Memref.isWhole_whole _) wM (Memref.isWhole_whole _) sxM (Memref.isWhole_whole _) swM (Memref.isWhole_whole _) oM (Memref.isWhole_whole _) xgM (Memref.isWhole_whole _) w8M (Memref.isWhole_whole _) cc0_scratch2 cc0_scratch3 cc0_scratch4 cc0_scratch5 c a₁ a₂ (scl m ρ c) a₃ a₄ (k0_pay12 (scl m ρ c) (slab m ρ (keepIx 3 c)) (w8 m ρ c)) (Scalar.ofBits .f32 0x00000000#32)) Q) := by
  rw [k0_part11_eq_skeleton]; unfold k0_part11_skel
  simp only [Prog.lift, Prog.bind_op, Prog.bind_ret, Prog.pure_eq_ret]
  iintro HS Hk
  iapply (step_peek m ρ K c _ _ _ _ _ _ _ _) $$ HS; iintro %_ HS
  iapply (step_chunk m ρ K c 3 _ _ _ _ _ _ _ _ (off7_k 3 3 rfl c) rfl) $$ HS; iintro HS
  iapply (step_block m ρ K c 11 _ _ _ _ _ _ _ (by simp) (off8_k 3 11 rfl c) (off9_k 3 11 rfl c) (fun _ _ => rfl)) $$ HS; iintro HS
  iapply (step_recv_slot m ρ K c 4 [5, 13, 6, 14, 7, 15] _ _ _ _ _ _ _ (by decide) rfl (by decide)) $$ HS; iintro HS
  rw [wp_ret]; imodintro
  iapply Hk $$ HS

/-- Part 12: copy 12 has landed, copies 5 and 13 start. -/
theorem part12 (ds tr dr kp os : List (Fin 16)) (a₁ a₂ a₃ : BitVec 32) {Q : _ → sProp 𝕄} :
    St m ρ K c [5, 13, 6, 14, 7, 15] ds (12 :: tr) dr [4] kp os (w8 m ρ c)
      ⊢ iprop((St m ρ K c [6, 14, 7, 15] (13 :: 5 :: ds) tr (12 :: dr) [] (12 :: 4 :: kp) os (w8 m ρ c) -∗ Q (k0_pay15 (slab m ρ (keepIx 4 c))))
          -∗ wp frame (wpE (defs₀ (F := F)) 𝒱₀ (c : Thread nD τ) none) Set.univ (k0_part12 xM (Memref.isWhole_whole _) wM (Memref.isWhole_whole _) sxM (Memref.isWhole_whole _) swM (Memref.isWhole_whole _) oM (Memref.isWhole_whole _) xgM (Memref.isWhole_whole _) w8M (Memref.isWhole_whole _) cc0_scratch2 cc0_scratch3 cc0_scratch4 cc0_scratch5 c a₁ a₂ a₃) Q) := by
  rw [k0_part12_eq_skeleton]; unfold k0_part12_skel
  simp only [Prog.lift, Prog.bind_op, Prog.bind_ret, Prog.pure_eq_ret]
  iintro HS Hk
  iapply (step_relay m ρ K c _ 4 5 (by decide) rfl (by decide) (Fin.ext (k0_dev13_eq c)) rfl rfl (off4_s 4 5 rfl c) _ _ _ _ _ _ _ _) $$ HS; iintro HS
  iapply (step_recv_slot m ρ K c 12 [13, 6, 14, 7, 15] _ _ _ _ _ _ _ (by decide) rfl (by decide)) $$ HS; iintro HS
  iapply (step_relay m ρ K c _ 12 13 (by decide) rfl (by decide) (Fin.ext (k0_dev14_eq c)) rfl rfl (off5_s 4 13 rfl c) _ _ _ _ _ _ _ _) $$ HS; iintro HS
  iapply (step_slot m ρ K c 4 _ _ _ _ _ _ _ _ (by simp) (off6_k 4 4 rfl c)) $$ HS; iintro HS
  rw [wp_ret]; imodintro
  iapply Hk $$ HS

/-- Part 13: the rows that copies 4 and 12 brought are stored. -/
theorem part13 (ds tr dr kp os : List (Fin 16)) (a₁ a₂ a₃ a₄ : BitVec 32) {Q : _ → sProp 𝕄} :
    St m ρ K c [6, 14, 7, 15] ds tr dr [] (12 :: kp) os (w8 m ρ c)
      ⊢ iprop((∀ a b, St m ρ K c [6, 14, 7, 15] ds tr dr [] (12 :: kp) (12 :: 4 :: os) (w8 m ρ c) -∗ Q ⟨a, b⟩)
          -∗ wp frame (wpE (defs₀ (F := F)) 𝒱₀ (c : Thread nD τ) none) Set.univ (k0_part13 xM (Memref.isWhole_whole _) wM (Memref.isWhole_whole _) sxM (Memref.isWhole_whole _) swM (Memref.isWhole_whole _) oM (Memref.isWhole_whole _) xgM (Memref.isWhole_whole _) w8M (Memref.isWhole_whole _) cc0_scratch2 cc0_scratch3 cc0_scratch4 cc0_scratch5 c a₁ a₂ (scl m ρ c) a₃ a₄ (k0_pay15 (slab m ρ (keepIx 4 c)))) Q) := by
  rw [k0_part13_eq_skeleton]; unfold k0_part13_skel
  simp only [Prog.lift, Prog.bind_op, Prog.bind_ret, Prog.pure_eq_ret]
  iintro HS Hk
  iapply (step_w8 m ρ K c _ _ _ _ _ _ _) $$ HS; iintro HS
  iapply (step_peek m ρ K c _ _ _ _ _ _ _ _) $$ HS; iintro %_ HS
  iapply (step_chunk m ρ K c 4 _ _ _ _ _ _ _ _ (off7_k 4 4 rfl c) rfl) $$ HS; iintro HS
  iapply (step_block m ρ K c 12 _ _ _ _ _ _ _ (by simp) (off8_k 4 12 rfl c) (off9_k 4 12 rfl c) (fun _ _ => rfl)) $$ HS; iintro HS
  rw [wp_ret]; imodintro
  iapply Hk $$ HS

/-- Part 14: copies 5 and 13 have landed, copy 6 starts. -/
theorem part14 (ds tr dr kp os : List (Fin 16)) (a₁ a₂ : BitVec 32) {Q : _ → sProp 𝕄} :
    St m ρ K c [6, 14, 7, 15] ds (5 :: 13 :: tr) dr [] kp os (w8 m ρ c)
      ⊢ iprop((St m ρ K c [14, 7, 15] (6 :: ds) tr (13 :: 5 :: dr) [13] (5 :: kp) os (w8 m ρ c) -∗ Q ⟨⟩)
          -∗ wp frame (wpE (defs₀ (F := F)) 𝒱₀ (c : Thread nD τ) none) Set.univ (k0_part14 xM (Memref.isWhole_whole _) wM (Memref.isWhole_whole _) sxM (Memref.isWhole_whole _) swM (Memref.isWhole_whole _) oM (Memref.isWhole_whole _) xgM (Memref.isWhole_whole _) w8M (Memref.isWhole_whole _) cc0_scratch2 cc0_scratch3 cc0_scratch4 cc0_scratch5 c a₁ a₂) Q) := by
  rw [k0_part14_eq_skeleton]; unfold k0_part14_skel
  simp only [Prog.lift, Prog.bind_op, Prog.bind_ret, Prog.pure_eq_ret]
  iintro HS Hk
  iapply (step_recv_slot m ρ K c 5 [6, 14, 7, 15] _ _ _ _ _ _ _ (by decide) rfl (by decide)) $$ HS; iintro HS
  iapply (step_relay m ρ K c _ 5 6 (by decide) rfl (by decide) (Fin.ext (k0_dev15_eq c)) rfl rfl (off4_s 5 6 rfl c) _ _ _ _ _ _ _ _) $$ HS; iintro HS
  iapply (step_recv_slot m ρ K c 13 [14, 7, 15] _ _ _ _ _ _ _ (by decide) rfl (by decide)) $$ HS; iintro HS
  rw [wp_ret]; imodintro
  iapply Hk $$ HS

/-- Part 15: copy 14 starts, the rows that copies 5 and 13 brought are stored. -/
theorem part15 (ds tr dr kp os : List (Fin 16)) (a₁ a₂ a₃ : BitVec 32) {Q : _ → sProp 𝕄} :
    St m ρ K c [14, 7, 15] ds tr dr [13] (5 :: kp) os (w8 m ρ c)
      ⊢ iprop((∀ a b, St m ρ K c [7, 15] (14 :: ds) tr dr [] (13 :: 5 :: kp) (13 :: 5 :: os) (w8 m ρ c) -∗ Q ⟨a, b⟩)
          -∗ wp frame (wpE (defs₀ (F := F)) 𝒱₀ (c : Thread nD τ) none) Set.univ (k0_part15 xM (Memref.isWhole_whole _) wM (Memref.isWhole_whole _) sxM (Memref.isWhole_whole _) swM (Memref.isWhole_whole _) oM (Memref.isWhole_whole _) xgM (Memref.isWhole_whole _) w8M (Memref.isWhole_whole _) cc0_scratch2 cc0_scratch3 cc0_scratch4 cc0_scratch5 c a₁ (scl m ρ c) a₂ a₃) Q) := by
  rw [k0_part15_eq_skeleton]; unfold k0_part15_skel
  simp only [Prog.lift, Prog.bind_op, Prog.bind_ret, Prog.pure_eq_ret]
  iintro HS Hk
  iapply (step_relay m ρ K c _ 13 14 (by decide) rfl (by decide) (Fin.ext (k0_dev16_eq c)) rfl rfl (off5_s 5 14 rfl c) _ _ _ _ _ _ _ _) $$ HS; iintro HS
  iapply (step_block m ρ K c 5 _ _ _ _ _ _ _ (by simp) (off6_k 5 5 rfl c) (off7_k 5 5 rfl c) (fun _ _ => rfl)) $$ HS; iintro HS
  iapply (step_block m ρ K c 13 _ _ _ _ _ _ _ (by simp) (off8_k 5 13 rfl c) (off9_k 5 13 rfl c) (fun _ _ => rfl)) $$ HS; iintro HS
  rw [wp_ret]; imodintro
  iapply Hk $$ HS

/-- Part 16: copies 6 and 14 have landed, copy 7 starts. -/
theorem part16 (ds tr dr kp os : List (Fin 16)) (a₁ a₂ : BitVec 32) {Q : _ → sProp 𝕄} :
    St m ρ K c [7, 15] ds (6 :: 14 :: tr) dr [] kp os (w8 m ρ c)
      ⊢ iprop((St m ρ K c [15] (7 :: ds) tr (14 :: 6 :: dr) [14] (6 :: kp) os (w8 m ρ c) -∗ Q ⟨⟩)
          -∗ wp frame (wpE (defs₀ (F := F)) 𝒱₀ (c : Thread nD τ) none) Set.univ (k0_part16 xM (Memref.isWhole_whole _) wM (Memref.isWhole_whole _) sxM (Memref.isWhole_whole _) swM (Memref.isWhole_whole _) oM (Memref.isWhole_whole _) xgM (Memref.isWhole_whole _) w8M (Memref.isWhole_whole _) cc0_scratch2 cc0_scratch3 cc0_scratch4 cc0_scratch5 c a₁ a₂) Q) := by
  rw [k0_part16_eq_skeleton]; unfold k0_part16_skel
  simp only [Prog.lift, Prog.bind_op, Prog.bind_ret, Prog.pure_eq_ret]
  iintro HS Hk
  iapply (step_recv_slot m ρ K c 6 [7, 15] _ _ _ _ _ _ _ (by decide) rfl (by decide)) $$ HS; iintro HS
  iapply (step_relay_half m ρ K c _ 6 7 (by decide) rfl 0 (by decide) (by decide) (Fin.ext (k0_dev17_eq c)) rfl rfl (off10_s c) _ _ _ _ _ _ _ _) $$ HS; iintro HS
  iapply (step_recv_slot m ρ K c 14 [15] _ _ _ _ _ _ _ (by decide) rfl (by decide)) $$ HS; iintro HS
  rw [wp_ret]; imodintro
  iapply Hk $$ HS

/-- Part 17: copy 15 starts, the rows that copies 6 and 14 brought are stored. -/
theorem part17 (ds tr dr kp os : List (Fin 16)) (a₁ a₂ a₃ : BitVec 32) {Q : _ → sProp 𝕄} :
    St m ρ K c [15] ds tr dr [14] (6 :: kp) os (w8 m ρ c)
      ⊢ iprop((∀ a b, St m ρ K c [] (15 :: ds) tr dr [] (14 :: 6 :: kp) (14 :: 6 :: os) (w8 m ρ c) -∗ Q ⟨a, b⟩)
          -∗ wp frame (wpE (defs₀ (F := F)) 𝒱₀ (c : Thread nD τ) none) Set.univ (k0_part17 xM (Memref.isWhole_whole _) wM (Memref.isWhole_whole _) sxM (Memref.isWhole_whole _) swM (Memref.isWhole_whole _) oM (Memref.isWhole_whole _) xgM (Memref.isWhole_whole _) w8M (Memref.isWhole_whole _) cc0_scratch2 cc0_scratch3 cc0_scratch4 cc0_scratch5 c a₁ (scl m ρ c) a₂ a₃) Q) := by
  rw [k0_part17_eq_skeleton]; unfold k0_part17_skel
  simp only [Prog.lift, Prog.bind_op, Prog.bind_ret, Prog.pure_eq_ret]
  iintro HS Hk
  iapply (step_relay_half m ρ K c _ 14 15 (by decide) rfl 128 (by decide) (by decide) (Fin.ext (k0_dev18_eq c)) rfl rfl (off11_s c) _ _ _ _ _ _ _ _) $$ HS; iintro HS
  iapply (step_block m ρ K c 6 _ _ _ _ _ _ _ (by simp) (off6_k 6 6 rfl c) (off7_k 6 6 rfl c) (fun _ _ => rfl)) $$ HS; iintro HS
  iapply (step_block m ρ K c 14 _ _ _ _ _ _ _ (by simp) (off8_k 6 14 rfl c) (off9_k 6 14 rfl c) (fun _ _ => rfl)) $$ HS; iintro HS
  rw [wp_ret]; imodintro
  iapply Hk $$ HS

/-- Part 18: copies 7 and 15 have landed, the last rows are stored. -/
theorem part18 (ds tr dr kp os : List (Fin 16)) (a₁ a₂ a₃ a₄ : BitVec 32) {Q : _ → sProp 𝕄} :
    St m ρ K c [] ds (7 :: 15 :: tr) dr [] kp os (w8 m ρ c)
      ⊢ iprop((St m ρ K c [] ds tr (15 :: 7 :: dr) [] (7 :: kp) (7 :: os) (w8 m ρ c) -∗ Q ⟨⟩)
          -∗ wp frame (wpE (defs₀ (F := F)) 𝒱₀ (c : Thread nD τ) none) Set.univ (k0_part18 xM (Memref.isWhole_whole _) wM (Memref.isWhole_whole _) sxM (Memref.isWhole_whole _) swM (Memref.isWhole_whole _) oM (Memref.isWhole_whole _) xgM (Memref.isWhole_whole _) w8M (Memref.isWhole_whole _) cc0_scratch2 cc0_scratch3 cc0_scratch4 cc0_scratch5 c a₁ a₂ (scl m ρ c) a₃ a₄) Q) := by
  rw [k0_part18_eq_skeleton]; unfold k0_part18_skel
  simp only [Prog.lift, Prog.bind_op, Prog.bind_ret, Prog.pure_eq_ret]
  iintro HS Hk
  iapply (step_recv_half m ρ K c 7 [] _ _ _ _ _ _ _ (by decide) rfl (by decide)) $$ HS; iintro HS
  iapply (step_recv_half m ρ K c 15 [] _ _ _ _ _ _ _ (by decide) rfl (by decide)) $$ HS; iintro HS
  ihave HS := (join m ρ K c _ _ _ _ _ _ _) $$ HS
  iapply (step_block m ρ K c 7 _ _ _ _ _ _ _ (by simp) (off14_k c) (off15_k c) (fun _ _ => rfl)) $$ HS; iintro HS
  rw [wp_ret]; imodintro
  iapply Hk $$ HS

/-- Part 19: copies 0, 8, 1 and 9 have left. -/
theorem part19 (ts ds : List (Fin 16)) {Q : _ → sProp 𝕄} :
    Fin_ m ρ K c (0 :: 8 :: 1 :: 9 :: ts) ds
      ⊢ iprop((Fin_ m ρ K c ts (9 :: 1 :: 8 :: 0 :: ds) -∗ Q ⟨⟩)
          -∗ wp frame (wpE (defs₀ (F := F)) 𝒱₀ (c : Thread nD τ) none) Set.univ (k0_part19 xM (Memref.isWhole_whole _) wM (Memref.isWhole_whole _) sxM (Memref.isWhole_whole _) swM (Memref.isWhole_whole _) oM (Memref.isWhole_whole _) xgM (Memref.isWhole_whole _) w8M (Memref.isWhole_whole _) cc0_scratch2 cc0_scratch3 cc0_scratch4 cc0_scratch5 c) Q) := by
  rw [k0_part19_eq_skeleton]; unfold k0_part19_skel
  simp only [Prog.lift, Prog.bind_op, Prog.bind_ret, Prog.pure_eq_ret]
  iintro HS Hk
  iapply (step_done_slot m ρ K c 0 _ _ rfl (by decide)) $$ HS; iintro HS
  iapply (step_done_slot m ρ K c 8 _ _ rfl (by decide)) $$ HS; iintro HS
  iapply (step_done_slot m ρ K c 1 _ _ rfl (by decide)) $$ HS; iintro HS
  iapply (step_done_slot m ρ K c 9 _ _ rfl (by decide)) $$ HS; iintro HS
  rw [wp_ret]; imodintro
  iapply Hk $$ HS

/-- Part 20: copies 2, 10, 3, 11 and 4 have left. -/
theorem part20 (ts ds : List (Fin 16)) {Q : _ → sProp 𝕄} :
    Fin_ m ρ K c (2 :: 10 :: 3 :: 11 :: 4 :: ts) ds
      ⊢ iprop((Fin_ m ρ K c ts (4 :: 11 :: 3 :: 10 :: 2 :: ds) -∗ Q ⟨⟩)
          -∗ wp frame (wpE (defs₀ (F := F)) 𝒱₀ (c : Thread nD τ) none) Set.univ (k0_part20 xM (Memref.isWhole_whole _) wM (Memref.isWhole_whole _) sxM (Memref.isWhole_whole _) swM (Memref.isWhole_whole _) oM (Memref.isWhole_whole _) xgM (Memref.isWhole_whole _) w8M (Memref.isWhole_whole _) cc0_scratch2 cc0_scratch3 cc0_scratch4 cc0_scratch5 c) Q) := by
  rw [k0_part20_eq_skeleton]; unfold k0_part20_skel
  simp only [Prog.lift, Prog.bind_op, Prog.bind_ret, Prog.pure_eq_ret]
  iintro HS Hk
  iapply (step_done_slot m ρ K c 2 _ _ rfl (by decide)) $$ HS; iintro HS
  iapply (step_done_slot m ρ K c 10 _ _ rfl (by decide)) $$ HS; iintro HS
  iapply (step_done_slot m ρ K c 3 _ _ rfl (by decide)) $$ HS; iintro HS
  iapply (step_done_slot m ρ K c 11 _ _ rfl (by decide)) $$ HS; iintro HS
  iapply (step_done_slot m ρ K c 4 _ _ rfl (by decide)) $$ HS; iintro HS
  rw [wp_ret]; imodintro
  iapply Hk $$ HS

/-- Part 21: copies 12, 5, 13 and 6 have left. -/
theorem part21 (ts ds : List (Fin 16)) {Q : _ → sProp 𝕄} :
    Fin_ m ρ K c (12 :: 5 :: 13 :: 6 :: ts) ds
      ⊢ iprop((Fin_ m ρ K c ts (6 :: 13 :: 5 :: 12 :: ds) -∗ Q ⟨⟩)
          -∗ wp frame (wpE (defs₀ (F := F)) 𝒱₀ (c : Thread nD τ) none) Set.univ (k0_part21 xM (Memref.isWhole_whole _) wM (Memref.isWhole_whole _) sxM (Memref.isWhole_whole _) swM (Memref.isWhole_whole _) oM (Memref.isWhole_whole _) xgM (Memref.isWhole_whole _) w8M (Memref.isWhole_whole _) cc0_scratch2 cc0_scratch3 cc0_scratch4 cc0_scratch5 c) Q) := by
  rw [k0_part21_eq_skeleton]; unfold k0_part21_skel
  simp only [Prog.lift, Prog.bind_op, Prog.bind_ret, Prog.pure_eq_ret]
  iintro HS Hk
  iapply (step_done_slot m ρ K c 12 _ _ rfl (by decide)) $$ HS; iintro HS
  iapply (step_done_slot m ρ K c 5 _ _ rfl (by decide)) $$ HS; iintro HS
  iapply (step_done_slot m ρ K c 13 _ _ rfl (by decide)) $$ HS; iintro HS
  iapply (step_done_slot m ρ K c 6 _ _ rfl (by decide)) $$ HS; iintro HS
  rw [wp_ret]; imodintro
  iapply Hk $$ HS

end Parts

end Cert.Gather

end
-- ==== Proof.Body.lean ====
/-
The body, run from what a device holds at its start to what it holds at its end: the entry (the device's own slot, the
handshake with both neighbours, the scales), the parts after it, and the waits for the copies' sources.
-/
module

public import proofs.«01_k».proof.Proof.Parts

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## More on lists of resources -/

omit [FloatOps F] in
/-- The empty chain holds nothing. -/
theorem chain_nil {I : Type} (Φ : I → sProp 𝕄) : (iprop(emp) : sProp 𝕄) ⊢ chain Φ [] := BI.Entails.refl _

omit [FloatOps F] in
/-- A chain over two lists in a row is the two chains. -/
theorem chain_append {I : Type} (Φ : I → sProp 𝕄) (a b : List I) : chain Φ (a ++ b) ⊣⊢ iprop(chain Φ a ∗ chain Φ b) := by
  induction a with
  | nil =>
    show chain Φ b ⊣⊢ iprop(emp ∗ chain Φ b)
    constructor
    · iintro H
      isplitr; · iempintro
      iexact H
    · iintro ⟨-, H⟩; iexact H
  | cons i a ih =>
    show iprop(Φ i ∗ chain Φ (a ++ b)) ⊣⊢ iprop((Φ i ∗ chain Φ a) ∗ chain Φ b)
    constructor
    · iintro ⟨H, Hab⟩
      ihave H' := ih.1 $$ Hab
      icases H' with ⟨Ha, Hb⟩
      isplitr [Hb]
      · isplitl [H] <;> iassumption
      iexact Hb
    · iintro ⟨⟨H, Ha⟩, Hb⟩
      isplitl [H]; · iexact H
      iapply ih.2
      isplitl [Ha] <;> iassumption

omit [FloatOps F] in
/-- A chain follows its members. -/
theorem chain_mono {I : Type} {Φ Ψ : I → sProp 𝕄} {l : List I} (h : ∀ i ∈ l, Φ i ⊢ Ψ i) : chain Φ l ⊢ chain Ψ l := by
  induction l with
  | nil => exact BI.Entails.refl _
  | cons i l ih =>
    show iprop(Φ i ∗ chain Φ l) ⊢ iprop(Ψ i ∗ chain Ψ l)
    iintro ⟨H, Hl⟩
    isplitl [H]
    · iapply (h i List.mem_cons_self); iexact H
    iapply (ih fun j hj => h j (List.mem_cons_of_mem _ hj)); iexact Hl

omit [FloatOps F] in
/-- A chain over a mapped list. -/
theorem chain_map {I J : Type} (Φ : J → sProp 𝕄) (f : I → J) (l : List I) : chain Φ (l.map f) = chain (fun i => Φ (f i)) l := by
  induction l with
  | nil => rfl
  | cons i l ih => show iprop(Φ (f i) ∗ chain Φ (l.map f)) = _; rw [ih]; rfl

omit [FloatOps F] in
/-- A chain over all sixteen copies is the same in any order. -/
theorem chain_perm (Φ : Fin 16 → sProp 𝕄) (l l' : List (Fin 16)) (h : l.Nodup ∧ (∀ i, i ∈ l) ∧ l'.Nodup ∧ ∀ i, i ∈ l') : chain Φ l = chain Φ l' :=
  (chain_eq Φ l h.1 h.2.1).trans (chain_eq Φ l' h.2.2.1 h.2.2.2).symm

/-- The kept parts but the device's own and the last, right-going first. -/
def mids : List (Fin 16) := [0, 1, 2, 3, 4, 5, 6] ++ [8, 9, 10, 11, 12, 13, 14]

/-- A device keeps sixteen different slots. -/
theorem keepIx_inj : ∀ (c : Fin 16) (j j' : Fin 16), keepIx j c = keepIx j' c → j = j' := by decide +kernel
/-- Every slot is one of the kept parts'. -/
def keepE (c : Dev nD) : Fin 16 ≃ Fin 16 := Equiv.ofBijective (fun j => keepIx j c) (Finite.injective_iff_bijective.mp fun j j' => keepIx_inj c j j')

omit [FloatOps F] in
/-- The product over the slots is the chain over the copies that brought them. -/
theorem slots_eq (c : Dev nD) (Φ : Fin 16 → sProp 𝕄) (l : List (Fin 16)) (hn : l.Nodup) (hl : ∀ i, i ∈ l) :
    bigSep Finset.univ Φ = chain (fun j => Φ (keepIx j c)) l :=
  (bigSep_univ_equiv (keepE c) Φ).trans (chain_eq (fun j => Φ (keepIx j c)) l hn hl).symm

/-! ## The slots handed to the neighbours -/

/-- Before the last round the slot kept is the slot received. -/
theorem keep_mid {j : Fin 16} (h : j.val % 8 ≠ 7) (c : Dev nD) : keepIx j c = rIx j c := if_neg fun e => h (by rw [e])

omit [FloatOps F] in
/-- Where copy `j` lands at its target, said from the target. -/
theorem dst_frm (j : Fin 16) (c : Dev nD) : dst (F := F) j (frm j c) = Any c (rows (rIx j c) (plo j) (phi j)) := by
  unfold dst; rw [tgt_frm]; rfl
omit [FloatOps F] in
/-- The same of a whole slot. -/
theorem dst_mid (j : Fin 16) (h : j.val % 8 ≠ 7) (c : Dev nD) : dst (F := F) j (frm j c) = Any c (rows (keepIx j c) 0 256) := by
  rw [dst_frm, (part_whole h).1, (part_whole h).2, keep_mid h]

omit [FloatOps F] in
/-- The scratch of slots, split: the device's own, and what its two neighbours' copies land in. -/
theorem spread (c : Dev nD) (f : Buf (Elt F) ((c : Thread nD τ).loc cc0_scratch0)) :
    (((c : Thread nD τ).loc cc0_scratch0) ↦{fullShare} f : sProp 𝕄)
      ⊢ iprop(Any c (rows c 0 256) ∗ barPay false (lft c) ∗ barPay true (rgt c)) := by
  have hR : chain (fun j => Any (F := F) c (rows (keepIx j c) 0 256)) [0, 1, 2, 3, 4, 5, 6] ⊢ chain (fun j => dst (F := F) j (lft c)) [0, 1, 2, 3, 4, 5, 6] :=
    chain_mono fun j hj => Entails.of_eq ((dst_mid j (by revert j; decide) c).symm.trans (by rw [show frm j c = lft c from if_pos (by revert j; decide)]))
  have hL : chain (fun j => Any (F := F) c (rows (keepIx j c) 0 256)) [8, 9, 10, 11, 12, 13, 14] ⊢ chain (fun j => dst (F := F) j (rgt c)) [8, 9, 10, 11, 12, 13, 14] :=
    chain_mono fun j hj => Entails.of_eq ((dst_mid j (by revert j; decide) c).symm.trans (by rw [show frm j c = rgt c from if_neg (by revert j; decide)]))
  have h7 : Any (F := F) c (rows (keepIx 7 c) 0 128) ⊢ chain (fun j => dst j (lft c)) [7] := by
    show _ ⊢ iprop(dst 7 (lft c) ∗ emp)
    rw [show dst (F := F) 7 (lft c) = Any c (rows (keepIx 7 c) 0 128) from dst_frm 7 c]
    iintro H
    isplitl [H]; · iexact H
    iempintro
  have h15 : Any (F := F) c (rows (keepIx 7 c) 128 256) ⊢ chain (fun j => dst j (rgt c)) [15] := by
    show _ ⊢ iprop(dst 15 (rgt c) ∗ emp)
    rw [show dst (F := F) 15 (rgt c) = Any c (rows (keepIx 7 c) 128 256) from (dst_frm 15 c).trans (by rw [← rIx_meet]; rfl)]
    iintro H
    isplitl [H]; · iexact H
    iempintro
  refine (Any_split c f).trans ?_
  rw [slots_eq c (fun o => Any (F := F) c (rows o 0 256)) ([15, 7] ++ mids) (by decide) (by decide)]
  have h : chain (fun j => Any (F := F) c (rows (keepIx j c) 0 256)) ([15, 7] ++ mids)
    ⊢ iprop(Any c (rows (keepIx 15 c) 0 256) ∗ Any c (rows (keepIx 7 c) 0 256) ∗ chain (fun j => Any c (rows (keepIx j c) 0 256)) mids) := BI.Entails.refl _
  refine h.trans ?_
  rw [keepIx_own]
  iintro ⟨Hown, Hfar, Hm⟩
  ihave Hm' := (chain_append (fun j => Any (F := F) c (rows (keepIx j c) 0 256)) [0, 1, 2, 3, 4, 5, 6] [8, 9, 10, 11, 12, 13, 14]).1 $$ [Hm]
  · unfold mids; iexact Hm
  icases Hm' with ⟨HR, HL⟩
  ihave Hf := (Any_halves (F := F) c (keepIx 7 c)) $$ Hfar
  icases Hf with ⟨Ht, Hb⟩
  isplitl [Hown]; · iexact Hown
  isplitl [HR Ht]
  · unfold barPay
    iapply (chain_append (fun j => dst (F := F) j (lft c)) [0, 1, 2, 3, 4, 5, 6] [7]).2
    isplitl [HR]
    · iapply hR; iexact HR
    iapply h7; iexact Ht
  · unfold barPay
    iapply (chain_append (fun j => dst (F := F) j (rgt c)) [8, 9, 10, 11, 12, 13, 14] [15]).2
    isplitl [HL]
    · iapply hL; iexact HL
    iapply h15; iexact Hb

omit [FloatOps F] in
/-- What the two neighbours hand over: where each copy lands. -/
theorem dsts (c : Dev nD) : iprop(barPay (F := F) false c ∗ barPay true c) ⊢ chain (fun j => dst j c) order := by
  refine (chain_append (fun j => dst (F := F) j c) (dir false) (dir true)).2.trans ?_
  exact Entails.of_eq (chain_perm (fun j => dst (F := F) j c) _ _ (by decide))

/-- Every copy done: the slots are whole again, all gathered. -/
theorem regather (c : Dev nD) (l l' : List (Fin 16)) (h : l.Nodup ∧ (∀ i, i ∈ l) ∧ l'.Nodup ∧ ∀ i, i ∈ l') :
    iprop(chain (keep (F := F) m ρ c) l ∗ chain (fun j => sendPay m ρ j c) l') ⊢ ((c : Thread nD τ).loc cc0_scratch0) ↦{fullShare} gath m ρ := by
  rw [chain_perm (keep (F := F) m ρ c) l ([15, 7] ++ mids) ⟨h.1, h.2.1, by decide, by decide⟩,
    chain_perm (fun j => sendPay (F := F) m ρ j c) l' ([0, 8] ++ mids.map (· + 1)) ⟨h.2.2.1, h.2.2.2, by decide, by decide⟩]
  have h1 : iprop(chain (keep (F := F) m ρ c) ([15, 7] ++ mids) ∗ chain (fun j => sendPay m ρ j c) ([0, 8] ++ mids.map (· + 1)))
    ⊢ iprop((keep m ρ c 15 ∗ keep m ρ c 7 ∗ chain (keep m ρ c) mids) ∗ (sendPay m ρ 0 c ∗ sendPay m ρ 8 c ∗ chain (fun j => sendPay m ρ j c) (mids.map (· + 1)))) := BI.Entails.refl _
  refine h1.trans ?_
  rw [chain_map, ← Pts_join, slots_eq c (fun o => Pts (F := F) m ρ c (rows o 0 256) fullShare) ([15, 7] ++ mids) (by decide) (by decide)]
  have h2 : iprop(Pts (F := F) m ρ c (rows (keepIx 15 c) 0 256) fullShare ∗ Pts m ρ c (rows (keepIx 7 c) 0 256) fullShare
        ∗ chain (fun j => Pts m ρ c (rows (keepIx j c) 0 256) fullShare) mids)
    ⊢ chain (fun j => Pts m ρ c (rows (keepIx j c) 0 256) fullShare) ([15, 7] ++ mids) := BI.Entails.refl _
  refine BI.Entails.trans ?_ h2
  rw [keepIx_own]
  have hm : chain (fun j => iprop(keep (F := F) m ρ c j ∗ sendPay m ρ (j + 1) c)) mids ⊢ chain (fun j => Pts m ρ c (rows (keepIx j c) 0 256) fullShare) mids :=
    chain_mono fun j hj => by
      have hj' : j.val % 8 ≠ 7 := by revert j; decide
      refine (relay (F := F) m ρ c j hj').2.trans (Entails.of_eq ?_)
      unfold recvPay
      rw [(part_whole hj').1, (part_whole hj').2, keep_mid hj']
  have h7 : keep (F := F) m ρ c 7 ⊢ Pts m ρ c (rows (keepIx 7 c) 0 256) fullShare := by
    unfold keep
    iintro ⟨H, -⟩
    iexact H
  suffices h3 : iprop((keep (F := F) m ρ c 15 ∗ keep m ρ c 7 ∗ chain (keep m ρ c) mids) ∗ sendPay m ρ 0 c ∗ sendPay m ρ 8 c ∗ chain (fun i => sendPay m ρ (i + 1) c) mids)
    ⊢ (iprop(Pts m ρ c (rows c 0 256) fullShare ∗ Pts m ρ c (rows (keepIx 7 c) 0 256) fullShare
        ∗ chain (fun j => Pts m ρ c (rows (keepIx j c) 0 256) fullShare) mids) : sProp 𝕄) by exact h3
  iintro ⟨⟨H15, H7, Hm⟩, H0, H8, Hs⟩
  isplitl [H15 H0 H8]
  · iapply (own_split (F := F) m ρ c).2
    isplitl [H15]; · iexact H15
    isplitl [H0] <;> iassumption
  isplitl [H7]
  · iapply h7; iexact H7
  iapply hm
  iapply (chain_sep (keep (F := F) m ρ c) (fun j => sendPay m ρ (j + 1) c) mids)
  isplitl [Hm] <;> iassumption

/-! ## The entry -/

section Body

variable (K : Dev nD × CI → ℕ) (c : Dev nD)

/-- The tokens of the duties device `c` pays by copy `j`. -/
def toksOf (c : Dev nD) (j : Fin 16) : sProp 𝕄 := iprop(dutyTok ER (sendC j c) 0 false ∗ dutyTok ER (recvC j (tgt j c)) 0 false)
def posS (c : Dev nD) (j : Fin 16) : sProp 𝕄 := atPos ER (sendC j c) 0 ∅ 0
def posR (c : Dev nD) (j : Fin 16) : sProp 𝕄 := atPos ER (recvC j c) 0 ∅ 0
def credR (c : Dev nD) (j : Fin 16) : sProp 𝕄 := cred (tallyAt (recvC j c) () (nC j))

/-- What a device holds of the protocol when it starts, at the invariants' names `K`. -/
def ghost (c : Dev nD) : sProp 𝕄 :=
  iprop(records m ρ K ∗ atPos ER (barC c) 0 ∅ 0 ∗ dutyTok ER (barC (lft c)) 0 false ∗ dutyTok ER (barC (rgt c)) 0 true
    ∗ chain (toksOf c) order ∗ chain (posS c) order ∗ chain (posR c) order)
/-- Its credits, and the levels. -/
def funds (c : Dev nD) : sProp 𝕄 := iprop(cred (tallyAt (barC c) () 2) ∗ chain (credR c) order ∗ levAts L lv)

/-- A staging buffer holding `X`. -/
abbrev has (c : Dev nD) (b : Ref sig .tc) (X : Buf (Elt F) ((c : Thread nD τ).loc b)) : sProp 𝕄 := ((c : Thread nD τ).loc b) ↦{fullShare} X

instance : Subsingleton S1.Idx := ⟨fun a b => funext fun k => by
  fin_cases k
  exact Fin.ext ((Nat.lt_one_iff.mp (a 0).isLt).trans (Nat.lt_one_iff.mp (b 0).isLt).symm)⟩

omit [FloatOps F] in
/-- The first signal pays one unit at the left neighbour. -/
theorem tally_bar (c : Dev nD) : O₀ c = O₁ c + tallyAt (barC (lft c)) () 1 := rfl

/-- The entry. -/
theorem part1 (f₀ : Buf (Elt F) ((c : Thread nD τ).loc cc0_scratch0)) (g : Buf (Elt F) ((c : Thread nD τ).loc cc0_scratch1)) (fo : Buf (Elt F) ((c : Thread nD τ).loc cc0_stg4_0))
    (W : Waits sig Unit) {Q : _ → sProp 𝕄} :
    iprop(ghost m ρ K c ∗ funds c ∗ owes (c : Thread nD τ) (O₀ c) W ∗ has c cc0_scratch0 f₀ ∗ has c cc0_scratch1 g ∗ has c cc0_stg4_0 fo
        ∗ has c cc0_stg0_0 (xstg m ρ c) ∗ has c cc0_stg2_0 (sxstg m ρ c) ∗ has c cc0_stg3_0 (swstg m ρ c))
      ⊢ iprop((∀ a₁ a₂ a₃, (St m ρ K c order [] order [] [] [15] [] g ∗ sendPay m ρ 0 c ∗ sendPay m ρ 8 c ∗ semVal (barC c) 0 ∗ chain (posS c) order
            ∗ has c cc0_stg0_0 (xstg m ρ c) ∗ has c cc0_stg2_0 (sxstg m ρ c) ∗ has c cc0_stg3_0 (swstg m ρ c)) -∗ Q ⟨c, a₁, a₂, a₃, scl m ρ c⟩)
          -∗ wp frame (wpE (defs₀ (F := F)) 𝒱₀ (c : Thread nD τ) none) Set.univ (k0_part1 xM (Memref.isWhole_whole _) wM (Memref.isWhole_whole _) sxM (Memref.isWhole_whole _) swM (Memref.isWhole_whole _) oM (Memref.isWhole_whole _) xgM (Memref.isWhole_whole _) w8M (Memref.isWhole_whole _) cc0_scratch2 cc0_scratch3 cc0_scratch4 cc0_scratch5) Q) := by
  rw [k0_part1_eq_skeleton]; unfold k0_part1_skel
  simp only [semSignalWord, semWaitWord, smemLoad, smemLoadElt_bind, Prog.lift, Prog.bind_op, Prog.bind_ret, Prog.pure_eq_ret, wp_deviceId]
  rw [show (⟨k0_dev1 c, k0_dev1_lt c⟩ : Dev nD) = lft c from Fin.ext (k0_dev1_eq c), show (⟨k0_dev2 c, k0_dev2_lt c⟩ : Dev nD) = rgt c from Fin.ext (k0_dev2_eq c)]
  unfold ghost funds
  iintro ⟨⟨#HR, HatB, HtL, HtR, Htk, HpS, HpR⟩, ⟨HcB, HcR, #HL⟩, HO, Hxg, Hw, Ho, Hx, Hsx, Hsw⟩ Hk
  -- the device's own activations, into its own slot
  ihave Hsp := (spread (F := F) c f₀) $$ Hxg
  icases Hsp with ⟨Hown, HbL, HbR⟩
  unfold Any
  icases Hown with ⟨%f, Hown⟩
  iapply (wp_load 𝒱₀ (c : Thread nD τ) none Set.univ (m := xM) (Finset.subset_univ _)) $$ Hx; iintro Hx
  rw [show (xM.view.readAt (Elt F) (Rect.unit (s := S256x4096) ![0, 0] S256x4096.size inb_S256x4096_S256x4096_0_0 : Rect S256x4096) (xstg m ρ c)) = xstg m ρ c
    from Memref.readAt_unit_zero (Elt F) cc0_stg0_0 hz _ _]
  iapply (wp_load_rect 𝒱₀ (c : Thread nD τ) none Set.univ (m := xgM) (r := slotR (k0_off1 c) (k0_off1_inb c)) (S := rows c 0 256)
    (subset_of_eq (slotA_set c _ (k0_off1_eq c)))) $$ Hown; iintro Hown
  iapply (wp_store 𝒱₀ (c : Thread nD τ) none Set.univ (m := xgM) (r := slotR (k0_off1 c) (k0_off1_inb c)) (Mk := Finset.univ) (S := rows c 0 256)
    (subset_of_eq (slotA_set c _ (k0_off1_eq c)))) $$ Hown; iintro Hown
  ihave Hown := (Entails.of_eq (pointsTo_congr (write_slot m ρ c (k0_off1_inb c) (k0_off1_eq c) f))) $$ Hown
  ihave Hown := (own_split (F := F) m ρ c).1 $$ [Hown]
  · unfold Pts; iexact Hown
  icases Hown with ⟨Hk15, Hs0, Hs8⟩
  -- the signal to the left neighbour, with the landing places of its right-going copies
  rw [tally_bar c]
  iapply (Rounds.wp_signal 𝒱₀ ER (rd m ρ) (c : Thread nD τ) none (dst := (lft c : Thread nD τ)) (κ := kB K (lft c))
      (d := false) (by rw [duties_bar]; exact Finset.mem_univ _) ((amount_bar m ρ (lft c) false).trans (by decide)) () (O₁ c) rfl)
    $$ [HO HtL HbL]
  · isplitr; · iapply (inv_of m ρ K (lft c, .inr ())); iexact HR
    isplitl [HO]; · iexact HO
    isplitl [HtL]; · iexact HtL
    isplitl [HbL]; · rw [payload_bar]; iexact HbL
    iapply (reached_of m ρ K (lft c, .inr ())); iexact HR
  iintro HO
  unfold O₁
  -- the signal to the right neighbour, with the landing places of its left-going copies
  iapply (Rounds.wp_signal 𝒱₀ ER (rd m ρ) (c : Thread nD τ) none (dst := (rgt c : Thread nD τ)) (κ := kB K (rgt c))
      (d := true) (by rw [duties_bar]; exact Finset.mem_univ _) ((amount_bar m ρ (rgt c) true).trans (by decide)) () (owe c order) rfl)
    $$ [HO HtR HbR]
  · isplitr; · iapply (inv_of m ρ K (rgt c, .inr ())); iexact HR
    isplitl [HO]; · iexact HO
    isplitl [HtR]; · iexact HtR
    isplitl [HbR]; · rw [payload_bar]; iexact HbR
    iapply (reached_of m ρ K (rgt c, .inr ())); iexact HR
  iintro HO
  -- the wait for both neighbours
  iapply (Rounds.wp_wait_rest_token 𝒱₀ ER (rd m ρ) (c : Thread nD τ) none (κ := kB K c)
      (wpE_semWait_eq 𝒱₀ (c : Thread nD τ) none Set.univ) (Set.mem_univ _) () (O := owe c order) (W := W) (R := 0) (m := 0) (T := ∅)
      (by rw [expect_bar]; decide)) $$ [HcB HO HatB]
  · isplitr; · iapply (inv_of m ρ K (c, .inr ())); iexact HR
    isplitl [HcB]; · iexact HcB
    isplitl [HO]; · iexact HO
    isplitr
    · iapply (mayWait_owe c _ order 1 (le_of_eq (lv_bar c)) (by decide)); iexact HL
    iexact HatB
  iintro ⟨HO, HatB, -, Hpay⟩
  ihave Hp := (Entails.of_eq (rest_bar m ρ c)) $$ Hpay
  ihave Hd := (dsts (F := F) c) $$ Hp
  imod (Rounds.cell_close ER (rd m ρ) (Set.mem_univ (kB K c)) (fun h => h) (R := 0 + 1) (duties_later m ρ (barC c))) $$ [HatB] with Hz
  · isplitr; · iapply (inv_of m ρ K (c, .inr ())); iexact HR
    iexact HatB
  -- the scales
  iapply (wp_smemLoadElt_named 𝒱₀ (c : Thread nD τ) none Set.univ (m := sxM) (r := Rect.unit (s := S1) ![0] S1.size inb_S1_S1_0)
    (x := Shape.Idx.first (numel1_S1.symm ▸ Nat.one_pos))) $$ Hsx; iintro Hsx %vHsx %hvHsx
  iapply (wp_smemLoadElt_named 𝒱₀ (c : Thread nD τ) none Set.univ (m := swM) (r := Rect.unit (s := S1) ![0] S1.size inb_S1_S1_0)
    (x := Shape.Idx.first (numel1_S1.symm ▸ Nat.one_pos))) $$ Hsw; iintro Hsw %vHsw %hvHsw
  rw [hvHsx.trans (congrArg (sxstg m ρ c) (Subsingleton.elim (α := S1.Idx) _ ix1)), hvHsw.trans (congrArg (swstg m ρ c) (Subsingleton.elim (α := S1.Idx) _ ix1))]
  rw [show k0_pay2 (sxstg m ρ c ix1) (swstg m ρ c ix1) = scl m ρ c from rfl, wp_ret]; imodintro
  iapply Hk
  isplitl [HO Htk HpR HcR Hk15 Hw Ho Hd]
  · unfold St
    isplitr; · iexact HR
    isplitr; · iexact HL
    isplitl [HO]; · iexists _; iexact HO
    isplitl [Hd Htk]
    · iapply (chain_sep (fun j => dst (F := F) j c) (toksOf c) order)
      isplitl [Hd] <;> iassumption
    isplitr; · iapply (chain_nil _); iempintro
    isplitl [HcR HpR]
    · iapply (chain_sep (credR (F := F) c) (posR c) order)
      isplitl [HcR] <;> iassumption
    isplitr; · iapply (chain_nil _); iempintro
    isplitr; · iapply (chain_nil _); iempintro
    isplitl [Hk15]
    · iapply (show keep (F := F) m ρ c 15 ⊢ chain (keep m ρ c) [15] from by
        show _ ⊢ iprop(keep (F := F) m ρ c 15 ∗ emp)
        iintro H
        isplitl [H]; · iexact H
        iempintro)
      iexact Hk15
    isplitl [Ho]
    · unfold outP
      iexists fo
      isplitr; · ipureintro; rintro i ⟨j, hj, -⟩; exact absurd hj List.not_mem_nil
      iexact Ho
    unfold wP; iexact Hw
  isplitl [Hs0]; · iexact Hs0
  isplitl [Hs8]; · iexact Hs8
  isplitl [Hz]; · iexact Hz
  isplitl [HpS]; · iexact HpS
  isplitl [Hx]; · iexact Hx
  isplitl [Hsx] <;> iassumption

/-- The first two copies, the weights kept, and the device's own chunk. -/
theorem part2 (g : Buf (Elt F) ((c : Thread nD τ).loc cc0_scratch1)) (tr dr : List (Fin 16)) (a₁ a₂ : BitVec 32) {Q : _ → sProp 𝕄} :
    iprop(St m ρ K c [0, 8, 1, 9, 2, 10, 3, 11, 4, 12, 5, 13, 6, 14, 7, 15] [] tr dr [] [15] [] g ∗ sendPay m ρ 0 c ∗ sendPay m ρ 8 c ∗ has c cc0_stg1_0 (wstg m ρ c))
      ⊢ iprop((∀ a b, (St m ρ K c [1, 9, 2, 10, 3, 11, 4, 12, 5, 13, 6, 14, 7, 15] [8, 0] tr dr [] [15] [15] (w8 m ρ c) ∗ has c cc0_stg1_0 (wstg m ρ c)) -∗ Q ⟨a, b⟩)
          -∗ wp frame (wpE (defs₀ (F := F)) 𝒱₀ (c : Thread nD τ) none) Set.univ (k0_part2 xM (Memref.isWhole_whole _) wM (Memref.isWhole_whole _) sxM (Memref.isWhole_whole _) swM (Memref.isWhole_whole _) oM (Memref.isWhole_whole _) xgM (Memref.isWhole_whole _) w8M (Memref.isWhole_whole _) cc0_scratch2 cc0_scratch3 cc0_scratch4 cc0_scratch5 c a₁ a₂ (scl m ρ c)) Q) := by
  rw [k0_part2_eq_skeleton]; unfold k0_part2_skel
  simp only [Prog.lift, Prog.bind_op, Prog.bind_ret, Prog.pure_eq_ret]
  iintro ⟨HS, Hs0, Hs8, Hw⟩ Hk
  iapply (step_send m ρ K c _ 0 (by decide) (Fin.ext (k0_dev3_eq c)) rfl rfl (off2_s c).1 _ _ _ _ _ _ _ _) $$ [HS Hs0]
  · isplitl [HS]; · iexact HS
    iexact Hs0
  iintro HS
  iapply (step_send m ρ K c _ 8 (by decide) (Fin.ext (k0_dev4_eq c)) rfl rfl (off2_s c).2 _ _ _ _ _ _ _ _) $$ [HS Hs8]
  · isplitl [HS]; · iexact HS
    iexact Hs8
  iintro HS
  iapply (wp_load 𝒱₀ (c : Thread nD τ) none Set.univ (m := wM) (Finset.subset_univ _)) $$ Hw; iintro Hw
  rw [show (wM.view.readAt (Elt F) (Rect.unit (s := S4096x128) ![0, 0] S4096x128.size inb_S4096x128_S4096x128_0_0 : Rect S4096x128) (wstg m ρ c)) = wstg m ρ c
    from Memref.readAt_unit_zero (Elt F) cc0_stg1_0 hz _ _]
  iapply (step_peekw m ρ K c _ _ _ _ _ _ _ _) $$ HS; iintro %_ HS
  iapply (step_setw m ρ K c _ _ _ _ _ _ _ _ rfl) $$ HS; iintro HS
  iapply (step_block m ρ K c 15 _ _ _ _ _ _ _ (by simp) (off1_k c) (off3_k c) (fun _ _ => rfl)) $$ HS; iintro HS
  rw [wp_ret]; imodintro
  iapply Hk
  isplitl [HS] <;> iassumption

/-! ## The end -/

/-- Every copy started and every landing awaited: what is left to do is to await the copies' sources. -/
theorem settle :
    iprop(St m ρ K c [] [15, 7, 14, 6, 13, 5, 12, 4, 11, 3, 10, 2, 9, 1, 8, 0] [] [15, 7, 14, 6, 13, 5, 12, 4, 11, 3, 10, 2, 9, 1, 8, 0] [] [7, 14, 6, 13, 5, 12, 4, 11, 3, 10, 2, 9, 1, 8, 0, 15] [7, 14, 6, 13, 5, 12, 4, 11, 3, 10, 2, 9, 1, 8, 0, 15] (w8 m ρ c) ∗ chain (posS c) order)
      ⊢ iprop(Fin_ m ρ K c [0, 8, 1, 9, 2, 10, 3, 11, 4, 12, 5, 13, 6, 14, 7, 15] [] ∗ chain (recvd (F := F) c) order ∗ chain (keep m ρ c) [7, 14, 6, 13, 5, 12, 4, 11, 3, 10, 2, 9, 1, 8, 0, 15] ∗ outP m ρ c [7, 14, 6, 13, 5, 12, 4, 11, 3, 10, 2, 9, 1, 8, 0, 15] ∗ wP c (w8 m ρ c)) := by
  unfold St Fin_
  iintro ⟨⟨#HR, -, HO, -, Hs, -, Hr, -, Hk, Ho, Hw⟩, HpS⟩
  ihave Hs := (Entails.of_eq (chain_perm (sent (F := F) c) [15, 7, 14, 6, 13, 5, 12, 4, 11, 3, 10, 2, 9, 1, 8, 0] order (by decide))) $$ Hs
  ihave Hr := (Entails.of_eq (chain_perm (recvd (F := F) c) [15, 7, 14, 6, 13, 5, 12, 4, 11, 3, 10, 2, 9, 1, 8, 0] order (by decide))) $$ Hr
  isplitl [HO Hs HpS]
  · isplitr; · iexact HR
    isplitl [HO]; · iexact HO
    isplitl [Hs HpS]
    · iapply (chain_sep (sent (F := F) c) (posS c) order)
      isplitl [Hs]; · iexact Hs
      iexact HpS
    iapply (chain_nil _)
    iempintro
  isplitl [Hr]; · iexact Hr
  isplitl [Hk]; · iexact Hk
  isplitl [Ho] <;> iassumption

def zeroS (c : Dev nD) (j : Fin 16) : sProp 𝕄 := semVal (sendC j c) 0

/-- What a device holds at the end. -/
def Done (c : Dev nD) : sProp 𝕄 :=
  iprop((∃ W, owes (c : Thread nD τ) 0 W) ∗ has c cc0_scratch0 (gath m ρ) ∗ has c cc0_scratch1 (w8 m ρ c) ∗ has c cc0_stg4_0 (outAt m ρ c)
    ∗ chain (zeroS (F := F) c) order ∗ chain (recvd (F := F) c) order ∗ semVal (barC c) 0)

/-- Every slot is kept by some copy. -/
theorem kept_all : ∀ c o : Fin 16, ∃ j ∈ ([7, 14, 6, 13, 5, 12, 4, 11, 3, 10, 2, 9, 1, 8, 0, 15] : List (Fin 16)), keepIx j c = o := by decide +kernel

/-- At the end of the body the shares and slots come together to whole buffers. -/
theorem finish :
    iprop(Fin_ m ρ K c [] [15, 7, 14, 6, 13, 5, 12, 4, 11, 3, 10, 2, 9, 1, 8, 0] ∗ chain (recvd (F := F) c) order ∗ chain (keep m ρ c) [7, 14, 6, 13, 5, 12, 4, 11, 3, 10, 2, 9, 1, 8, 0, 15] ∗ outP m ρ c [7, 14, 6, 13, 5, 12, 4, 11, 3, 10, 2, 9, 1, 8, 0, 15] ∗ wP c (w8 m ρ c) ∗ semVal (barC c) 0)
      ⊢ Done m ρ c := by
  unfold Fin_ outP wP Done
  iintro ⟨⟨-, HO, -, Hd⟩, Hr, Hk, ⟨%f, %hf, Ho⟩, Hw, Hz⟩
  rw [show f = outAt m ρ c from funext fun i => hf i (kept_all c (rowSlot i))]
  ihave Hd' := (chain_unsep (fun j => sendPay m ρ j c) (zeroS (F := F) c) [15, 7, 14, 6, 13, 5, 12, 4, 11, 3, 10, 2, 9, 1, 8, 0]) $$ [Hd]
  · iexact Hd
  icases Hd' with ⟨Hp, Hzs⟩
  ihave Hzs := (Entails.of_eq (chain_perm (zeroS (F := F) c) [15, 7, 14, 6, 13, 5, 12, 4, 11, 3, 10, 2, 9, 1, 8, 0] order (by decide))) $$ Hzs
  isplitl [HO]; · iexact HO
  isplitl [Hk Hp]
  · iapply (regather m ρ c [7, 14, 6, 13, 5, 12, 4, 11, 3, 10, 2, 9, 1, 8, 0, 15] [15, 7, 14, 6, 13, 5, 12, 4, 11, 3, 10, 2, 9, 1, 8, 0] (by decide))
    isplitl [Hk] <;> iassumption
  isplitl [Hw]; · iexact Hw
  isplitl [Ho]; · iexact Ho
  isplitl [Hzs]; · iexact Hzs
  isplitl [Hr] <;> iassumption

set_option maxHeartbeats 1600000 in
/-- The body, from start to end. -/
theorem body_run (f₀ : Buf (Elt F) ((c : Thread nD τ).loc cc0_scratch0)) (g : Buf (Elt F) ((c : Thread nD τ).loc cc0_scratch1)) (fo : Buf (Elt F) ((c : Thread nD τ).loc cc0_stg4_0))
    (W : Waits sig Unit) {Q : PUnit → sProp 𝕄} :
    iprop(ghost m ρ K c ∗ funds c ∗ owes (c : Thread nD τ) (O₀ c) W ∗ has c cc0_scratch0 f₀ ∗ has c cc0_scratch1 g ∗ has c cc0_stg4_0 fo
        ∗ has c cc0_stg0_0 (xstg m ρ c) ∗ has c cc0_stg1_0 (wstg m ρ c) ∗ has c cc0_stg2_0 (sxstg m ρ c) ∗ has c cc0_stg3_0 (swstg m ρ c))
      ⊢ iprop(((Done m ρ c ∗ has c cc0_stg0_0 (xstg m ρ c) ∗ has c cc0_stg1_0 (wstg m ρ c) ∗ has c cc0_stg2_0 (sxstg m ρ c) ∗ has c cc0_stg3_0 (swstg m ρ c)) -∗ Q ⟨⟩)
          -∗ wp frame (wpE (defs₀ (F := F)) 𝒱₀ (c : Thread nD τ) none) Set.univ (cc0_body xM (Memref.isWhole_whole _) wM (Memref.isWhole_whole _) sxM (Memref.isWhole_whole _) swM (Memref.isWhole_whole _) oM (Memref.isWhole_whole _) xgM (Memref.isWhole_whole _) w8M (Memref.isWhole_whole _) cc0_scratch2 cc0_scratch3 cc0_scratch4 cc0_scratch5) Q) := by
  rw [cc0_body_eq_skeleton]; unfold cc0_body_skel
  iintro ⟨HG, HF, HO, Hxg, Hw8, Ho, Hx, Hw, Hsx, Hsw⟩ Hk
  rw [wp_bind]
  iapply (part1 m ρ K c f₀ g fo W) $$ [HG HF HO Hxg Hw8 Ho Hx Hsx Hsw]
  · isplitl [HG]; · iexact HG
    isplitl [HF]; · iexact HF
    isplitl [HO]; · iexact HO
    isplitl [Hxg]; · iexact Hxg
    isplitl [Hw8]; · iexact Hw8
    isplitl [Ho]; · iexact Ho
    isplitl [Hx]; · iexact Hx
    isplitl [Hsx] <;> iassumption
  iintro %a₁ %a₂ %a₃ ⟨HS, Hs0, Hs8, Hz, HpS, Hx, Hsx, Hsw⟩
  rw [wp_bind]
  iapply (part2 m ρ K c g [0, 8, 1, 9, 2, 10, 3, 11, 4, 12, 5, 13, 6, 14, 7, 15] _ _ _) $$ [HS Hs0 Hs8 Hw]
  · isplitl [HS]; · iexact HS
    isplitl [Hs0]; · iexact Hs0
    isplitl [Hs8] <;> iassumption
  iintro %b₁ %b₂ ⟨HS, Hw⟩
  rw [wp_bind]; iapply (part3 m ρ K c _ _ _ _ _ _ _ _ _ _) $$ HS; iintro %a %b HS
  rw [wp_bind]; iapply (part4 m ρ K c _ _ _ _ _ _ _ _) $$ HS; iintro %b HS
  rw [wp_bind]; iapply (part5 m ρ K c _ _ _ _ _ _ _ _ _ _) $$ HS; iintro %a %b %d %e HS
  rw [wp_bind]; iapply (part6 m ρ K c _ _ _ _ _ _ _ _ _ _) $$ HS; iintro  HS
  rw [wp_bind]; iapply (part7 m ρ K c _ _ _ _ _ _ _ _) $$ HS; iintro %a %b HS
  rw [wp_bind]; iapply (part8 m ρ K c _ _ _ _ _ _ _) $$ HS; iintro  HS
  rw [wp_bind]; iapply (part9 m ρ K c _ _ _ _ _ _ _ _) $$ HS; iintro %a %b HS
  rw [wp_bind]; iapply (part10 m ρ K c _ _ _ _ _ _ _) $$ HS; iintro  HS
  rw [wp_bind]; iapply (part11 m ρ K c _ _ _ _ _ _ _ _ _) $$ HS; iintro %a %b HS
  rw [wp_bind]; iapply (part12 m ρ K c _ _ _ _ _ _ _ _) $$ HS; iintro  HS
  rw [wp_bind]; iapply (part13 m ρ K c _ _ _ _ _ _ _ _ _) $$ HS; iintro %a %b HS
  rw [wp_bind]; iapply (part14 m ρ K c _ _ _ _ _ _ _) $$ HS; iintro  HS
  rw [wp_bind]; iapply (part15 m ρ K c _ _ _ _ _ _ _ _) $$ HS; iintro %a %b HS
  rw [wp_bind]; iapply (part16 m ρ K c _ _ _ _ _ _ _) $$ HS; iintro  HS
  rw [wp_bind]; iapply (part17 m ρ K c _ _ _ _ _ _ _ _) $$ HS; iintro %a %b HS
  rw [wp_bind]; iapply (part18 m ρ K c _ _ _ _ _ _ _ _ _) $$ HS; iintro  HS
  ihave HF := (settle m ρ K c) $$ [HS HpS]
  · isplitl [HS]; · iexact HS
    iexact HpS
  icases HF with ⟨HS, Hrcv, Hkp, Hos, Hw8⟩
  rw [wp_bind]; iapply (part19 m ρ K c _ _) $$ HS; iintro  HS
  rw [wp_bind]; iapply (part20 m ρ K c _ _) $$ HS; iintro  HS
  rw [wp_bind]; iapply (part21 m ρ K c _ _) $$ HS; iintro  HS
  simp only [Prog.lift, Prog.bind_op, Prog.bind_ret, Prog.pure_eq_ret]
  iapply (step_done_slot m ρ K c 14 _ _ rfl (by decide)) $$ HS; iintro HS
  iapply (step_done_half m ρ K c 7 _ _ rfl (by decide)) $$ HS; iintro HS
  iapply (step_done_half m ρ K c 15 _ _ rfl (by decide)) $$ HS; iintro HS
  rw [wp_ret]; imodintro
  iapply Hk
  isplitl [HS Hrcv Hkp Hos Hw8 Hz]
  · iapply (finish m ρ K c)
    isplitl [HS]; · iexact HS
    isplitl [Hrcv]; · iexact Hrcv
    isplitl [Hkp]; · iexact Hkp
    isplitl [Hos]; · iexact Hos
    isplitl [Hw8] <;> iassumption
  isplitl [Hx]; · iexact Hx
  isplitl [Hw]; · iexact Hw
  isplitl [Hsx] <;> iassumption

end Body

end Cert.Gather

end
-- ==== Proof.Launch.lean ====
/-
The launch: the protocol's invariants and tokens dealt to the sixteen devices, and the run of the whole program.
-/
module

public import proofs.«01_k».proof.Proof.Body
public import Idealize.ShloMosaic.Lib.Pipeline.CollectiveSegs

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The proof data of the region -/

/-- What the global step makes for device `c`. -/
def G' (c : Dev nD) : sProp 𝕄 := iprop(∃ K, ghost m ρ K c)
def start (c : Dev nD) : sProp 𝕄 := iprop(G' m ρ c ∗ funds c)
def scratch (c : Dev nD) : sProp 𝕄 :=
  iprop((∃ f : Buf (Elt F) ((c : Thread nD τ).loc cc0_scratch0), has c cc0_scratch0 f) ∗ (∃ f : Buf (Elt F) ((c : Thread nD τ).loc cc0_scratch1), has c cc0_scratch1 f))
/-- Before the body and after it. -/
def Φ₀ (c : Dev nD) : sProp 𝕄 := iprop(start m ρ c ∗ scratch c)
def Φ₁ (c : Dev nD) : sProp 𝕄 := iprop(scratch (F := F) c ∗ chain (zeroS (F := F) c) order ∗ chain (recvd (F := F) c) order ∗ semVal (barC c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => sxstg m ρ c
    | ⟨3, _⟩ => swstg m ρ c
    | ⟨4, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

omit [FloatOps F] in
/-- Owning a whole buffer at its contents, said of the buffer. -/
theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ has c b f) := by
  unfold owns; simp only [Memref.view_whole, View.read_whole, View.set_whole]

/-- A staging buffer holding `X`, as the region states it. -/
abbrev stg (c : Dev nD) (b : Ref sig .tc) (X : b.ty.Contents (Elt F)) : sProp 𝕄 :=
  iprop(∃ f : Buf (Elt F) ((c : Thread nD τ).loc b), ⌜f = X⌝ ∗ has c b f)

def bodyPre (c : Dev nD) : sProp 𝕄 :=
  iprop(Φ₀ m ρ c ∗ (dats m ρ 0 c).owesAt () t0_0.castSucc
    ∗ (∃ d, stg c cc0_stg0_0 ((dats m ρ 0 c).before (0 : Fin 5) t0_0 d)) ∗ (∃ d, stg c cc0_stg1_0 ((dats m ρ 0 c).before (1 : Fin 5) t0_0 d))
    ∗ (∃ d, stg c cc0_stg2_0 ((dats m ρ 0 c).before (2 : Fin 5) t0_0 d)) ∗ (∃ d, stg c cc0_stg3_0 ((dats m ρ 0 c).before (3 : Fin 5) t0_0 d))
    ∗ (∃ d, stg c cc0_stg4_0 ((dats m ρ 0 c).before (4 : Fin 5) t0_0 d)))
def bodyPost (c : Dev nD) : sProp 𝕄 :=
  iprop(Φ₁ (F := F) c ∗ (dats m ρ 0 c).owesAt () t0_0.succ ∗ stg c cc0_stg0_0 (xstg m ρ c) ∗ stg c cc0_stg1_0 (wstg m ρ c)
    ∗ stg c cc0_stg2_0 (sxstg m ρ c) ∗ stg c cc0_stg3_0 (swstg m ρ c) ∗ stg c cc0_stg4_0 (outAt m ρ c))

/-- The activations are fetched. -/
theorem fetch_0 (t : Fin cfg0.N) : (cfg0.win (0 : Fin 5)).fetch t = true := by rw [show t = t0_0 from fin_N0 t]; rfl
/-- The weights are fetched. -/
theorem fetch_1 (t : Fin cfg0.N) : (cfg0.win (1 : Fin 5)).fetch t = true := by rw [show t = t0_0 from fin_N0 t]; rfl
/-- The activations' scale is fetched. -/
theorem fetch_2 (t : Fin cfg0.N) : (cfg0.win (2 : Fin 5)).fetch t = true := by rw [show t = t0_0 from fin_N0 t]; rfl
/-- The weights' scale is fetched. -/
theorem fetch_3 (t : Fin cfg0.N) : (cfg0.win (3 : Fin 5)).fetch t = true := by rw [show t = t0_0 from fin_N0 t]; rfl

/-- Owning a buffer is owning it as the pipeline's staging buffer. -/
theorem has_stg (c : Dev nD) (b : Ref sig .tc) (X : b.ty.Contents (Elt F)) : has c b X ⊢ (stg c b X : sProp 𝕄) := by
  iintro H
  iexists X
  isplitr; · (ipureintro; rfl)
  iexact H

set_option maxRecDepth 4000 in
/-- The body meets what the region asks of it. -/
theorem sound_body (c : Dev nD) :
    bodyPre m ρ c ⊢ wp frame (wpE (defs₀ (F := F)) 𝒱₀ (c : Thread nD τ) none) Set.univ (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 cc0_scratch4 cc0_scratch5) (fun _ => bodyPost m ρ c) := by
  unfold bodyPre Φ₀ start G' scratch
  iintro ⟨⟨⟨⟨%K, HG⟩, HF⟩, ⟨%f₀, Hxg⟩, ⟨%g, Hw8⟩⟩, HO, ⟨%d0, %g0, %hg0, Hx⟩, ⟨%d1, %g1, %hg1, Hw⟩, ⟨%d2, %g2, %hg2, Hsx⟩, ⟨%d3, %g3, %hg3, Hsw⟩, ⟨%d4, %g4, %hg4, Ho⟩⟩
  rw [show g0 = xstg m ρ c from by rw [hg0]; unfold Dat.before; rw [if_pos (fetch_0 t0_0)]; rfl,
    show g1 = wstg m ρ c from by rw [hg1]; unfold Dat.before; rw [if_pos (fetch_1 t0_0)]; rfl,
    show g2 = sxstg m ρ c from by rw [hg2]; unfold Dat.before; rw [if_pos (fetch_2 t0_0)]; rfl,
    show g3 = swstg m ρ c from by rw [hg3]; unfold Dat.before; rw [if_pos (fetch_3 t0_0)]; rfl]
  unfold Dat.owesAt Pipeline.owesWithin
  icases HO with ⟨%W, %hW, HO⟩
  rw [show (dats m ρ 0 c).owed t0_0.castSucc = O₀ c from rfl]
  iapply (body_run m ρ K c f₀ g g4 W) $$ [HG HF HO Hxg Hw8 Ho Hx Hw Hsx Hsw]
  · isplitl [HG]; · iexact HG
    isplitl [HF]; · iexact HF
    isplitl [HO]; · iexact HO
    isplitl [Hxg]; · iexact Hxg
    isplitl [Hw8]; · iexact Hw8
    isplitl [Ho]; · iexact Ho
    isplitl [Hx]; · iexact Hx
    isplitl [Hw]; · iexact Hw
    isplitl [Hsx] <;> iassumption
  unfold Done
  iintro ⟨⟨⟨%W', HO⟩, Hxg, Hw8, Ho, Hz, Hr, Hb⟩, Hx, Hw, Hsx, Hsw⟩
  unfold bodyPost Φ₁ scratch Dat.owesAt Pipeline.owesWithin
  rw [show (dats m ρ 0 c).owed t0_0.succ = 0 from rfl]
  isplitl [Hxg Hw8 Hz Hr Hb]
  · isplitl [Hxg Hw8]
    · isplitl [Hxg]
      · iexists _; iexact Hxg
      iexists _; iexact Hw8
    isplitl [Hz]; · iexact Hz
    isplitl [Hr] <;> iassumption
  isplitl [HO]
  · iexists W'
    isplitr; · ipureintro; exact fun _ _ => Or.inl trivial
    iexact HO
  isplitl [Hx]; · iapply has_stg; iexact Hx
  isplitl [Hw]; · iapply has_stg; iexact Hw
  isplitl [Hsx]; · iapply has_stg; iexact Hsx
  isplitl [Hsw]; · iapply has_stg; iexact Hsw
  iapply has_stg; iexact Ho

set_option maxRecDepth 65536 in
/-- The body does at its one grid point what the pipeline asks of it. -/
theorem body_obligation (c : Dev nD) : BodyObligation (dats (F := F) m ρ 0 c) (defs₀ (F := F)) 𝒱₀ () Set.univ := fun t => by
  rw [show t = t0_0 from fin_N0 t]
  rw [show ∀ Φ : Fin cfg0.W → sProp 𝕄, bigSep Finset.univ Φ = iprop(Φ (0 : Fin 5) ∗ Φ (1 : Fin 5) ∗ Φ (2 : Fin 5) ∗ Φ (3 : Fin 5) ∗ Φ (4 : Fin 5)) from bigSep_W0,
    show ∀ Φ : Fin cfg0.W → sProp 𝕄, bigSep Finset.univ Φ = iprop(Φ (0 : Fin 5) ∗ Φ (1 : Fin 5) ∗ Φ (2 : Fin 5) ∗ Φ (3 : Fin 5) ∗ Φ (4 : Fin 5)) from bigSep_W0]
  simp only [owns_whole]
  exact sound_body m ρ c

/-! ## What the launch deals -/

set_option backward.proofsInPublic true in
/-- The kernel's own semaphores: the sixteen send ones and the sixteen receive ones. -/
abbrev osem : Fin 32 → SemLoc sig := fun k => .dma ⟨5 + k.val, by have := k.isLt; show 5 + k.val < 37; omega⟩
/-- The kernel's own semaphores are scoped, different from each other and from the pipeline's. -/
theorem ownSemFacts : Pipeline.OwnSemFacts cfg0.spec osem where
  isScoped := by decide
  inj := fun k k' h => by
    have h' : (5 + k.val : ℕ) = 5 + k'.val := congrArg (fun s : SemLoc sig => match s with | .dma q => q.val | .reg q => q.val) h
    exact Fin.ext (by omega)
  disj := by decide

/-- Every window is held whole. -/
theorem share_eq (c : Dev nD) (w : Fin cfg0.W) : (dats m ρ 0 c).share w = fullShare := by unfold Dat.share; split <;> rfl

def ringCells : Finset (GSem nD τ sig) := Finset.univ.map ⟨kcell, kcell_injective⟩

/-- The duties of one device's cells: a send and a receive cell's one, the barrier's two. -/
abbrev TI : Type := (Fin 16 ⊕ Fin 16) ⊕ Bool
def tokCell : TI → CI
  | .inl k => .inl k
  | .inr _ => .inr ()
def tokDuty : TI → Bool
  | .inl _ => false
  | .inr b => b
def tokOf (ct : Dev nD × TI) : GSem nD τ sig × ℕ × Bool := (kcell (ct.1, tokCell ct.2), 0, tokDuty ct.2)
/-- Different duties have different tokens. -/
theorem tokOf_injective : Function.Injective tokOf := by
  rintro ⟨c, t⟩ ⟨c', t'⟩ h
  have h1 := kcell_injective (congrArg (fun x : GSem nD τ sig × ℕ × Bool => x.1) h)
  have h2 : tokDuty t = tokDuty t' := congrArg (fun x : GSem nD τ sig × ℕ × Bool => x.2.2) h
  have hc : c = c' := congrArg Prod.fst h1
  have ht : tokCell t = tokCell t' := congrArg Prod.snd h1
  rw [hc]
  rcases t with k | b <;> rcases t' with k' | b'
  · exact congrArg _ (congrArg Sum.inl (Sum.inl.inj ht))
  · exact absurd ht (by intro e; cases e)
  · exact absurd ht (by intro e; cases e)
  · exact congrArg _ (congrArg Sum.inr h2)
def ringToks : Finset (GSem nD τ sig × ℕ × Bool) := Finset.univ.map ⟨tokOf, tokOf_injective⟩

def u₀ : UU := (initOf (Pipeline.cells cfgs cellOf_inj) (Pipeline.launchToks cfgs cellOf_inj), initOf ringCells ringToks)

/-- The tokens of device `c`'s own cells. -/
def toks (c : Dev nD) : sProp 𝕄 :=
  iprop(((bigSep Finset.univ fun j : Fin 16 => dutyTok ER (sendC j c) 0 false) ∗ (bigSep Finset.univ fun j : Fin 16 => dutyTok ER (recvC j c) 0 false))
    ∗ (dutyTok ER (barC c) 0 false ∗ dutyTok ER (barC c) 0 true))
/-- The tokens of the duties device `c` pays. -/
def payToks (c : Dev nD) : sProp 𝕄 :=
  iprop(((bigSep Finset.univ fun j : Fin 16 => dutyTok ER (sendC j c) 0 false) ∗ (bigSep Finset.univ fun j : Fin 16 => dutyTok ER (recvC j (tgt j c)) 0 false))
    ∗ (dutyTok ER (barC (lft c)) 0 false ∗ dutyTok ER (barC (rgt c)) 0 true))

/-- What the launch element deals device `c`. -/
def G (c : Dev nD) : sProp 𝕄 :=
  iprop((bigSep Finset.univ fun k : CI => roundState ER (rd m ρ) (kcell (c, k)) 0)
    ∗ (bigSep Finset.univ fun k : CI => iprop(atPos ER (kcell (c, k)) 0 ∅ 0 ∗ reached ER (kcell (c, k)) 0)) ∗ toks c)

omit [FloatOps F] in
/-- A product over two members. -/
theorem bigSep_bool (Φ : Bool → sProp 𝕄) : bigSep Finset.univ Φ = iprop(Φ false ∗ Φ true) :=
  bigSep_univ_eq_bigSepL [false, true] (by decide) (by decide) Φ

/-- The ghost state at launch gives each device its part of the ring's. -/
theorem fund_ring : BI.own (ER (F := F) (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : CI => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    refine bigSep_congr fun c _ => ?_
    rw [bigSep_univ_sum, bigSep_univ_sum, bigSep_bool]; rfl
  iintro HX
  imod (Rounds.fund ER (rd m ρ) ringCells ringToks) $$ HX with ⟨Hst, Hr, Hat, Htok⟩
  imodintro
  ihave Hst' := (Entails.of_eq (hX fun g => roundState ER (rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The kernel's own semaphores at zero are the send and receive semaphores at zero. -/
theorem ownSems0_eq (c : Dev nD) : (Pipeline.ownSems0 (Ix := Unit) (Name := ℕ) (U := UU) (Lvl := ℕ) (Val := Elt F) (τ := τ) osem c : sProp 𝕄)
    = iprop((bigSep Finset.univ fun j : Fin 16 => semVal (sendC j c) 0) ∗ (bigSep Finset.univ fun j : Fin 16 => semVal (recvC j c) 0)) := by
  unfold Pipeline.ownSems0
  rw [bigSep_univ_equiv (finSumFinEquiv (m := 16) (n := 16)), bigSep_univ_sum]
  refine congrArg₂ _ (bigSep_congr fun j _ => ?_) (bigSep_congr fun j _ => ?_)
  · rw [show osem (finSumFinEquiv (m := 16) (n := 16) (.inl j)) = .dma (sSem j) from rfl]
  · rw [show osem (finSumFinEquiv (m := 16) (n := 16) (.inr j)) = .dma (rSem j) from by revert j; decide]
omit [FloatOps F] in
/-- The one unscoped semaphore at zero is the barrier at zero. -/
theorem unscopedSems0_eq (c : Dev nD) : (unscopedSems0 c : sProp 𝕄) = semVal (barC c) 0 := by
  unfold unscopedSems0; rw [bigSep_eq_bigSepL_of_eq [SemLoc.reg barS] (by decide) (by decide)]; rfl

omit [FloatOps F] in
/-- A product over the kinds of semaphore. -/
theorem bigSep_CI (Φ : CI → sProp 𝕄) : bigSep Finset.univ Φ
    = iprop(((bigSep Finset.univ fun j : Fin 16 => Φ (.inl (.inl j))) ∗ (bigSep Finset.univ fun j : Fin 16 => Φ (.inl (.inr j)))) ∗ Φ (.inr ())) := by
  rw [bigSep_univ_sum, bigSep_univ_sum, bigSep_univ_eq_bigSepL [()] (by decide) (by decide)]; rfl

omit [FloatOps F] in
/-- All of a device's semaphores of the protocol at zero. -/
theorem sems0_eq (c : Dev nD) : iprop(Pipeline.ownSems0 (Ix := Unit) (Name := ℕ) (U := UU) (Lvl := ℕ) (Val := Elt F) (τ := τ) osem c ∗ unscopedSems0 c) ⊢ (bigSep Finset.univ fun k : CI => semVal (kcell (c, k)) 0 : sProp 𝕄) := by
  rw [ownSems0_eq, unscopedSems0_eq, bigSep_CI]
  exact BI.Entails.refl _

/-- A device's semaphores at zero and its ghost state give the invariants of its semaphores. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (rd m ρ) κ (kcell (c, k))))
          ∗ (bigSep Finset.univ fun k => iprop(atPos ER (kcell (c, k)) 0 ∅ 0 ∗ reached ER (kcell (c, k)) 0)) ∗ toks c) := by
  have hI : iprop((bigSep Finset.univ fun k : CI => semVal (kcell (c, k)) 0) ∗ bigSep Finset.univ fun k : CI => roundState ER (rd m ρ) (kcell (c, k)) 0)
      ⊢ (|={Set.univ}=> bigSep Finset.univ fun k => iprop(∃ κ : ℕ, cellInv ER (rd m ρ) κ (kcell (c, k))) : sProp 𝕄) := by
    rw [← bigSep_sep']
    exact (bigSep_mono fun k _ => (Rounds.body_intro ER (rd m ρ) (kcell (c, k))).trans inv_alloc).trans (bigSep_fupd _ _)
  unfold G
  iintro ⟨Hos, Hus, Hst, Hat, Htok⟩
  ihave Hv := (sems0_eq (F := F) c) $$ [Hos Hus]
  · isplitl [Hos] <;> iassumption
  imod hI $$ [Hv Hst] with Hinv
  · isplitl [Hv] <;> iassumption
  imodintro
  isplitl [Hinv]; · iexact Hinv
  isplitl [Hat] <;> iassumption

def linear (c : Dev nD) : sProp 𝕄 := iprop((bigSep Finset.univ fun k : CI => atPos ER (kcell (c, k)) 0 ∅ 0) ∗ payToks c)

/-- The records and what is a device's alone are its ghost state in the body. -/
theorem ghost_intro (K : Dev nD × CI → ℕ) (c : Dev nD) : iprop(records m ρ K ∗ linear c) ⊢ G' m ρ c := by
  unfold linear payToks G' ghost
  rw [bigSep_CI, chain_eq (toksOf (F := F) c) order (by decide) (by decide), chain_eq (posS (F := F) c) order (by decide) (by decide),
    chain_eq (posR (F := F) c) order (by decide) (by decide)]
  iintro ⟨HR, ⟨⟨HpS, HpR⟩, HpB⟩, ⟨HtS, HtR⟩, HtL, HtG⟩
  iexists K
  isplitl [HR]; · iexact HR
  isplitl [HpB]; · iexact HpB
  isplitl [HtL]; · iexact HtL
  isplitl [HtG]; · iexact HtG
  isplitl [HtS HtR]
  · unfold toksOf
    rw [bigSep_sep']
    isplitl [HtS] <;> iassumption
  isplitl [HpS]
  · unfold posS; iexact HpS
  unfold posR; iexact HpR

omit [FloatOps F] in
/-- The tokens of the receive semaphores, handed round the ring to those who pay them. -/
theorem recv_around : (bigSep Finset.univ fun c : Dev nD => bigSep Finset.univ fun j : Fin 16 => (dutyTok ER (recvC j c) 0 false : sProp 𝕄))
    = bigSep Finset.univ fun c : Dev nD => bigSep Finset.univ fun j : Fin 16 => (dutyTok ER (recvC j (tgt j c)) 0 false : sProp 𝕄) := by
  rw [← bigSep_univ_prod (fun cj : Dev nD × Fin 16 => (dutyTok ER (recvC cj.2 cj.1) 0 false : sProp 𝕄)),
    ← bigSep_univ_prod (fun cj : Dev nD × Fin 16 => (dutyTok ER (recvC cj.2 (tgt cj.2 cj.1)) 0 false : sProp 𝕄)),
    bigSep_univ_equiv (⟨fun cj => (tgt cj.2 cj.1, cj.2), fun cj => (frm cj.2 cj.1, cj.2), fun cj => Prod.ext (frm_tgt cj.2 cj.1) rfl, fun cj => Prod.ext (tgt_frm cj.2 cj.1) rfl⟩ : Dev nD × Fin 16 ≃ Dev nD × Fin 16)
      (fun cj : Dev nD × Fin 16 => (dutyTok ER (recvC cj.2 cj.1) 0 false : sProp 𝕄))]
  rfl

omit [FloatOps F] in
/-- The tokens dealt to the devices that pay them. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep', recv_around,
    bigSep_univ_equiv ring.symm (fun c : Dev nD => (dutyTok ER (barC c) 0 false : sProp 𝕄)),
    bigSep_univ_equiv ring (fun c : Dev nD => (dutyTok ER (barC c) 0 true : sProp 𝕄))]
  exact BI.Entails.refl _

omit [FloatOps F] in
/-- A product whose members may each use one lasting fact. -/
theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- From the invariants of all devices to the ghost state of each. -/
theorem regroup :
    (bigSep Finset.univ fun c : Dev nD => iprop((bigSep Finset.univ fun k => iprop(∃ κ : ℕ, cellInv ER (rd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × CI => iprop(∃ κ : ℕ, cellInv ER (rd m ρ) κ (kcell ck))),
    bigSep_congr (s := Finset.univ) (fun (c : Dev nD) _ => bigSep_sep' Finset.univ (fun k : CI => (atPos ER (kcell (c, k)) 0 ∅ 0 : sProp 𝕄)) (fun k => reached ER (kcell (c, k)) 0)),
    bigSep_sep', ← bigSep_univ_prod (fun ck : Dev nD × CI => (reached ER (kcell ck) 0 : sProp 𝕄))]
  iintro ⟨HI, ⟨Hat, #HR⟩, Htok⟩
  ihave HK := (BI.bigSep_exists_pi Finset.univ (fun (ck : Dev nD × CI) (κ : ℕ) => (cellInv ER (rd m ρ) κ (kcell ck) : sProp 𝕄))) $$ HI
  icases HK with ⟨%K, #HI⟩
  ihave Htk := (toks_around (F := F)) $$ Htok
  iapply (bigSep_with (R := records m ρ K) fun c _ => ghost_intro m ρ K c)
  isplitr
  · unfold records; isplitl; · iexact HI
    iexact HR
  unfold linear
  rw [bigSep_sep']
  isplitl [Hat]; · iexact Hat
  iexact Htk

/-- The launch of the ghost state over all devices. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄) ⊢ |={Set.univ}=> bigSep Finset.univ (G' m ρ) :=
  ((bigSep_mono fun c _ => core_alloc m ρ c).trans (bigSep_fupd _ _)).trans (BI.fupd_mono (regroup m ρ))

/-! ## The launch credit -/

/-- Two semaphores are one when device and kind are. -/
theorem kcell_eq {a b : Dev nD} {k k' : CI} : Iff (kcell (a, k) = kcell (b, k')) (a = b ∧ k = k') :=
  ⟨fun h => ⟨congrArg Prod.fst (kcell_injective h), congrArg Prod.snd (kcell_injective h)⟩, fun ⟨h, h'⟩ => by rw [h, h']⟩

/-- Copies owe nothing at a barrier. -/
theorem owe_bar (d c : Dev nD) (l : List (Fin 16)) : owe d l (barC c) () = 0 := by
  by_contra h
  obtain ⟨j, _, e⟩ := owe_pos (Nat.pos_of_ne_zero h)
  exact absurd (kcell_eq (k := .inr ()) (k' := .inl (.inr j)).mp e).2 (by intro e; cases e)

/-- At launch a device owes one unit at each neighbour's barrier. -/
theorem owed_bar (d c : Dev nD) : O₀ d (barC c) () = (if d = lft c then 1 else 0) + (if d = rgt c then 1 else 0) := by
  unfold O₀ O₁
  rw [Pi.add_apply, Finsupp.add_apply, Pi.add_apply, Finsupp.add_apply, owe_bar, tallyAt_apply, tallyAt_apply, Nat.zero_add]
  congr 1
  · refine if_congr ⟨fun h => ?_, fun h => ?_⟩ rfl rfl
    · rw [(kcell_eq (k := .inr ()) (k' := .inr ()).mp h.1).1]; exact (lft_rgt d).symm
    · rw [h, rgt_lft]; exact ⟨rfl, rfl⟩
  · refine if_congr ⟨fun h => ?_, fun h => ?_⟩ rfl rfl
    · rw [(kcell_eq (k := .inr ()) (k' := .inr ()).mp h.1).1]; exact (rgt_lft d).symm
    · rw [h, lft_rgt]; exact ⟨rfl, rfl⟩

/-- What is owed at a receive semaphore is its copy's credit, by the copy's sender. -/
theorem owe_recv (d c : Dev nD) (j : Fin 16) (l : List (Fin 16)) (hn : l.Nodup) :
    owe d l (recvC j c) () = if j ∈ l ∧ d = frm j c then nC j else 0 := by
  induction l with
  | nil => rw [if_neg (fun h => List.not_mem_nil h.1)]; rfl
  | cons i l ih =>
    unfold owe
    rw [Pi.add_apply, Finsupp.add_apply, ih (List.nodup_cons.mp hn).2, tallyAt_apply]
    have hi := (List.nodup_cons.mp hn).1
    by_cases hij : i = j
    · rw [hij] at hi ⊢
      rw [if_neg (fun h => hi h.1), Nat.zero_add]
      refine if_congr ⟨fun h => ⟨List.mem_cons_self, ?_⟩, fun h => ?_⟩ rfl rfl
      · rw [(kcell_eq (k := .inl (.inr j)) (k' := .inl (.inr j)).mp h.1).1]; exact (frm_tgt j d).symm
      · rw [h.2, tgt_frm]; exact ⟨rfl, rfl⟩
    · rw [if_neg (c := recvC j c = recvC i (tgt i d) ∧ () = ()) (fun h => hij ?_), Nat.add_zero]
      · refine if_congr ⟨fun h => ⟨List.mem_cons_of_mem _ h.1, h.2⟩, fun h => ⟨(List.mem_cons.mp h.1).resolve_left (fun e => hij e.symm), h.2⟩⟩ rfl rfl
      · exact (Sum.inr.inj (Sum.inl.inj (kcell_eq (k := .inl (.inr j)) (k' := .inl (.inr i)).mp h.1).2)).symm

/-- Every copy is in the order of copies. -/
theorem mem_order : ∀ j, j ∈ order := by decide

/-- At launch a receive semaphore is owed its copy's credit by the copy's sender. -/
theorem owed_recv (d c : Dev nD) (j : Fin 16) : O₀ d (recvC j c) () = if d = frm j c then nC j else 0 := by
  unfold O₀ O₁
  rw [Pi.add_apply, Finsupp.add_apply, Pi.add_apply, Finsupp.add_apply, owe_recv d c j order (by decide), tallyAt_apply, tallyAt_apply,
    if_neg (c := recvC j c = barC (rgt d) ∧ () = ()) (fun h => ?_), if_neg (c := recvC j c = barC (lft d) ∧ () = ()) (fun h => ?_), Nat.add_zero]
  · exact if_congr ⟨fun h => h.2, fun h => ⟨mem_order j, h⟩⟩ rfl rfl
  · exact absurd (kcell_eq (k := .inl (.inr j)) (k' := .inr ()).mp h.1).2 (by intro e; cases e)
  · exact absurd (kcell_eq (k := .inl (.inr j)) (k' := .inr ()).mp h.1).2 (by intro e; cases e)

/-- The launch gives each barrier's owner the right to two units. -/
theorem launch_bar (c : Dev nD) :
    tallyOn (barC c) (launchCredit (Pipeline.owing O₀) 0 (barC c)) = (tallyAt (barC c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (lft c) fun _ => 1, Finset.sum_ite_eq' Finset.univ (rgt c) fun _ => 1, if_pos (Finset.mem_univ _), if_pos (Finset.mem_univ _)]

/-- The launch gives each receive semaphore's owner the right to its copy's credit. -/
theorem launch_recv (c : Dev nD) (j : Fin 16) :
    tallyOn (recvC j c) (launchCredit (Pipeline.owing O₀) 0 (recvC j c)) = (tallyAt (recvC j c) () (nC j) : CellTallies nD τ sig Unit) := by
  unfold tallyAt; refine congrArg _ (Finsupp.ext fun u => ?_); cases u
  rw [Pipeline.launchCredit_owing, Finsupp.single_eq_same, Finset.sum_congr rfl fun d _ => owed_recv d c j, Finset.sum_ite_eq' Finset.univ (frm j c) fun _ => nC j,
    if_pos (Finset.mem_univ _)]

/-- Different copies have different receive semaphores. -/
theorem rSem_injective : Function.Injective fun j : Fin 16 => (SemLoc.dma (rSem j) : SemLoc sig) := fun j j' h => by
  have := congrArg kd h
  rw [kd_recv, kd_recv] at this
  exact Sum.inr.inj (Sum.inl.inj (Option.some.inj this))

omit [FloatOps F] in
/-- What a device may wait for at launch. -/
theorem creds (c : Dev nD) :
    (Pipeline.launchCred O₀ c : sProp 𝕄) ⊢ iprop(cred (tallyAt (barC c) () 2) ∗ chain (credR c) order) := by
  unfold Pipeline.launchCred
  rw [bigSep_univ_at _ (SemLoc.reg barS), launch_bar, chain_eq (credR (F := F) c) order (by decide) (by decide)]
  refine sep_mono_right ?_
  refine (BI.bigSep_subset (t := Finset.univ.map ⟨fun j : Fin 16 => (SemLoc.dma (rSem j) : SemLoc sig), rSem_injective⟩) fun x hx => ?_).trans ?_
  · obtain ⟨j, _, rfl⟩ := Finset.mem_map.mp hx
    exact Finset.mem_erase.mpr ⟨(fun e => by cases e), Finset.mem_univ _⟩
  · rw [bigSep_map]
    exact Entails.of_eq (bigSep_congr fun j _ => by unfold credR; rw [← launch_recv]; rfl)

/-! ## The region's side conditions -/

/-- What the launch gives a device is what it starts with. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start funds
  isplitl
  · isplitl [HG]; · iexact HG
    isplitl [H1]; · iexact H1
    isplitl [HN] <;> iassumption
  iempintro

/-- What it starts with and its scratch are what the body asks for. -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs] <;> iassumption

/-- What the body leaves gives back the semaphores at zero and the scratch. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ scratch
  rw [chain_eq (zeroS (F := F) c) order (by decide) (by decide), chain_eq (recvd (F := F) c) order (by decide) (by decide)]
  iintro ⟨Hr, HzS, HzV, HzB⟩
  isplitl [HzB]; · iexact HzB
  isplitl [HzS HzV]
  · isplitl [HzS]
    · unfold zeroS; iexact HzS
    unfold recvd; iexact HzV
  iexact Hr

/-- The pipeline's own waits are below everything that is owed. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- Device `c`'s array of window `w` at the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- The program on sixteen devices, over any float values, from any memory: it ends, every device's arrays hold what
    `finalA` says and every counter is zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument arrays end as they began. -/
theorem finalA_in (c : Dev nD) (w : Fin 5) (h : w ≠ 4) : finalA m ρ c w = (s₀ m ρ).mem ((cfg0.win w).arr.view.loc (c : Thread nD τ)) :=
  (dats (F := F) m ρ 0 c).arrAt_in w (by revert w; decide) _

end Cert.Gather

end
-- ==== Proof.Value.lean ====
/- What the kernel leaves in its result array, from the arguments: over any float values the array is `outAt`, and over the
   extended reals each element of it is a sum of 4096 products, scaled and clipped at zero. -/
module

public import proofs.«01_k».proof.Proof.Launch
public import Idealize.ShloMosaic.Lib.Pipeline.ValueKit
public import Idealize.ShloMosaic.Lib.MatmulPlain

@[expose] public section

set_option maxRecDepth 16384

noncomputable section

namespace Cert.Gather

open Cert.KernelIdeal Cert.KernelIdeal.Gen
open Idealize.ShloMosaic Idealize.ShloMosaic.TcCoe
open Idealize.SL.Sem
open scoped BigOperators

section Any

variable {F : FTy → Type} [FloatOps F]
variable (m : (ℓ : Loc nD τ sig) → Buf (Elt F) ℓ) (ρ : Dev nD → PrngReg)

/-- The one write-back is of the whole array: the result array ends as the body left its staging buffer. -/
theorem final_out (c : Dev nD) : finalA m ρ c 4 = outAt m ρ c := by
  refine (dats m ρ 0 c).arrAt_eq_of_after_last 4 t0_0 (by decide +kernel) _ fun j => ?_
  blk_simp
  rfl

/-- What is staged of the activations is the argument itself. -/
theorem xstg_eq (c : Dev nD) (i : S256x4096.Idx) : xstg m ρ c i = m ((c : Thread nD τ).loc main_arg0) i := by
  exact congrArg (m ((c : Thread nD τ).loc main_arg0)) (funext fun a => Fin.ext (win0_0.rect_emb_val_of_index_zero (0 : Fin 1) a rfl i))
/-- What is staged of the weights is the argument itself. -/
theorem wstg_eq (c : Dev nD) (i : S4096x128.Idx) : wstg m ρ c i = m ((c : Thread nD τ).loc main_arg1) i := by
  exact congrArg (m ((c : Thread nD τ).loc main_arg1)) (funext fun a => Fin.ext (win0_1.rect_emb_val_of_index_zero (0 : Fin 1) a rfl i))
/-- What is staged of the activations' scale is the argument itself. -/
theorem sxstg_eq (c : Dev nD) (i : S1.Idx) : sxstg m ρ c i = m ((c : Thread nD τ).loc main_arg2) i := by
  exact congrArg (m ((c : Thread nD τ).loc main_arg2)) (funext fun a => Fin.ext (win0_2.rect_emb_val_of_index_zero (0 : Fin 1) a rfl i))
/-- What is staged of the weights' scale is the argument itself. -/
theorem swstg_eq (c : Dev nD) (i : S1.Idx) : swstg m ρ c i = m ((c : Thread nD τ).loc main_arg3) i := by
  exact congrArg (m ((c : Thread nD τ).loc main_arg3)) (funext fun a => Fin.ext (win0_3.rect_emb_val_of_index_zero (0 : Fin 1) a rfl i))

/-- A slab read as a matrix is the activations of the device it came from. -/
theorem slab_flat (o : Dev nD) : shapeCast S256x4096 (slab m ρ o) shapeCasts_S1x256x4096_S256x4096 = xstg m ρ o := by
  unfold slab k0_pay1
  simp only [shapeCast_id, shapeCast_shapeCast]

/-- The kept weights are the staged ones. -/
theorem w8_eq (c : Dev nD) : w8 m ρ c = wstg m ρ c := by
  unfold w8 k0_pay3
  simp only [shapeCast_id]

end Any

/-- An accumulated sum, scaled and clipped at zero: what both programs do to each sum. -/
def scaleClip (a s : Ideal .f32) : Ideal .f32 := FloatOps.maximumf (FloatOps.mulf a s) (FloatOps.ofBits .f32 0x00000000#32)

variable (m : (ℓ : Loc nD τ sig) → Buf (Elt Ideal) ℓ) (ρ : Dev nD → PrngReg)

/-- Device `o`'s activations, and device `c`'s weights, as matrices of extended reals. -/
def act (o : Dev nD) : S256x4096.Idx → EReal := m ((o : Thread nD τ).loc main_arg0)
def wgt (c : Dev nD) : S4096x128.Idx → EReal := m ((c : Thread nD τ).loc main_arg1)

/-- An element of the rows that slot `o` gives on device `c`: the sum over the 4096 products of device `o`'s row with
    device `c`'s column, scaled and clipped. -/
theorem chunk_apply (c o : Dev nD) (r : Fin 256) (l : Fin 128) :
    chunk m ρ c o (ValueIdx.ix2 r l) = scaleClip
      (∑ k : Fin 4096, act m o (ValueIdx.ix2 r k) * wgt m c (ValueIdx.ix2 k l)) (Scalar.mulf (m ((c : Thread nD τ).loc main_arg2) ix1) (m ((c : Thread nD τ).loc main_arg3) ix1)) := by
  have hx : xstg m ρ o = act m o := funext (xstg_eq m ρ o)
  have hw : wstg m ρ c = wgt m c := funext (wstg_eq m ρ c)
  have hp := Ideal.matmul_plain_apply (M := 256) (K := 4096) (N := 128) (φ₁ := .fp8e5m2) (φ₂ := .fp8e5m2) none (act m o) (wgt m c)
    (constant (F := Ideal) S256x128 .f32 0x00000000#32) r l
  have h0 : constant (F := Ideal) S256x128 .f32 0x00000000#32 (ValueIdx.ix2 r l) = (0 : EReal) := Ideal.ofBits_zero_f32
  have hc : scl m ρ c = Scalar.mulf (m ((c : Thread nD τ).loc main_arg2) ix1) (m ((c : Thread nD τ).loc main_arg3) ix1) :=
    congrArg₂ Scalar.mulf (sxstg_eq m ρ c ix1) (swstg_eq m ρ c ix1)
  unfold chunk k0_pay4
  rw [slab_flat, w8_eq, hc, hx, hw]
  rw [h0, zero_add] at hp
  exact congrArg (fun a => scaleClip a _) hp

end Cert.Gather

end
-- ==== Proof.Reference.lean ====
/- What the reference leaves in its result array: each element is the sum over the 4096 products of a row of the whole
   activations with a column of the whole weights, scaled and clipped at zero. -/
module

public import proofs.«01_k».proof.Proof.Value
public import proofs.«01_k».proof.Proof.Gen.ReferenceIdeal.Value

@[expose] public section

set_option maxRecDepth 16384

noncomputable section

namespace Cert.Plain

open Cert.ReferenceIdeal Cert.ReferenceIdeal.Gen
open Idealize.ShloMosaic Idealize.ShloMosaic.TcCoe
open Idealize.SL.Sem
open Cert.Gather (scaleClip)
open scoped BigOperators

variable (m : (ℓ : Loc nD τ sig) → Buf (Elt Ideal) ℓ) (ρ : Dev nD → PrngReg)

/-- The whole activations and the whole weights, as matrices of extended reals, and the product of the two scales. -/
def act (c : Dev nD) : S4096x4096.Idx → EReal := m ((c : Thread nD τ).loc main_arg0)
def wgt (c : Dev nD) : S4096x2048.Idx → EReal := m ((c : Thread nD τ).loc main_arg1)
set_option backward.proofsInPublic true in
def ix1 : S1.Idx := fun | ⟨0, _⟩ => (0 : Fin 1)
def scl (c : Dev nD) : Ideal .f32 := Scalar.mulf (m ((c : Thread nD τ).loc main_arg2) ix1) (m ((c : Thread nD τ).loc main_arg3) ix1)

/-- The block that the one grid point stages of an argument is the argument. -/
theorem iblk0 (c : Dev nD) (t : Fin cfg0.N) : iblk m c 0 t = act m c :=
  funext fun i => congrArg (m ((c : Thread nD τ).loc main_arg0)) (funext fun a => Fin.ext (win0_0.rect_emb_val_of_index_zero t a rfl i))
/-- The same of the weights. -/
theorem iblk1 (c : Dev nD) (t : Fin cfg0.N) : iblk m c 1 t = wgt m c :=
  funext fun i => congrArg (m ((c : Thread nD τ).loc main_arg1)) (funext fun a => Fin.ext (win0_1.rect_emb_val_of_index_zero t a rfl i))
/-- The same of the activations' scale. -/
theorem iblk2 (c : Dev nD) (t : Fin cfg0.N) : iblk m c 2 t = m ((c : Thread nD τ).loc main_arg2) :=
  funext fun i => congrArg (m ((c : Thread nD τ).loc main_arg2)) (funext fun a => Fin.ext (win0_2.rect_emb_val_of_index_zero t a rfl i))
/-- The same of the weights' scale. -/
theorem iblk3 (c : Dev nD) (t : Fin cfg0.N) : iblk m c 3 t = m ((c : Thread nD τ).loc main_arg3) :=
  funext fun i => congrArg (m ((c : Thread nD τ).loc main_arg3)) (funext fun a => Fin.ext (win0_3.rect_emb_val_of_index_zero t a rfl i))

/-- The array that the reference stores: its one payload of the arguments. -/
def plain (c : Dev nD) : FVec Ideal S4096x2048 .f32 :=
  k0_pay1 (act m c) (wgt m c) (m ((c : Thread nD τ).loc main_arg2) ix1) (m ((c : Thread nD τ).loc main_arg3) ix1)

/-- The reference's result array ends holding that payload. -/
theorem final_plain (c : Dev nD) : (dats m 0 c).arrAt 4 cfg0.N = plain m c := by
  refine (dats m 0 c).arrAt_eq_of_after_last 4 t0_0 (by decide +kernel) _ fun j => ?_
  blk_simp
  rw [after0_4]
  unfold outsAt0
  frame_out
  have e : ∀ i : S1.Idx, i = ix1 := fun i => funext fun a => by fin_cases a; exact Subsingleton.elim (α := Fin 1) _ _
  have h0 := (hs0_0 t0_0).read_unread (iblk m c 0 t0_0)
  have h1 := (hs0_1 t0_0).read_unread (iblk m c 1 t0_0)
  have h2 := (hs0_2 t0_0).read_unread (iblk m c 2 t0_0)
  have h3 := (hs0_3 t0_0).read_unread (iblk m c 3 t0_0)
  rw [iblk0] at h0; rw [iblk1] at h1; rw [iblk2] at h2; rw [iblk3] at h3
  have k2 := fun i : S1.Idx => (congrFun h2 i).trans (congrArg (m ((c : Thread nD τ).loc main_arg2)) (e i))
  have k3 := fun i : S1.Idx => (congrFun h3 i).trans (congrArg (m ((c : Thread nD τ).loc main_arg3)) (e i))
  rw [iblk0, iblk1, iblk2, iblk3]
  unfold plain
  exact congrFun (congr (congr (congrArg₂ k0_pay1 h0 h1) (k2 _)) (k3 _)) j

/-- An element of it: the sum over 4096 products of a row with a column, scaled and clipped. -/
theorem plain_apply (c : Dev nD) (r : Fin 4096) (l : Fin 2048) :
    plain m c (ValueIdx.ix2 r l) = scaleClip
      (∑ k : Fin 4096, act m c (ValueIdx.ix2 r k) * wgt m c (ValueIdx.ix2 k l)) (scl m c) := by
  have hp := Ideal.matmul_plain_apply (M := 4096) (K := 4096) (N := 2048) (φ₁ := .f32) (φ₂ := .f32) none (act m c) (wgt m c)
    (constant (F := Ideal) S4096x2048 .f32 0x00000000#32) r l
  have h0 : constant (F := Ideal) S4096x2048 .f32 0x00000000#32 (ValueIdx.ix2 r l) = (0 : EReal) := Ideal.ofBits_zero_f32
  rw [h0, zero_add] at hp
  exact congrArg (fun a => scaleClip a _) hp

end Cert.Plain

end
-- ==== Proof.Equation.lean ====
/- The equation: where each device holds its rows of the activations and its columns of the weights, its result is its
   columns of the plain product. -/
module

public import proofs.«01_k».proof.Proof.Reference

@[expose] public section

set_option maxRecDepth 16384

noncomputable section

namespace Cert.Equation

open Idealize.ShloMosaic Idealize.ShloMosaic.TcCoe
open scoped BigOperators

variable (m : (ℓ : Loc KernelIdeal.nD KernelIdeal.τ KernelIdeal.sig) → Buf (Elt Ideal) ℓ) (ρ : Dev KernelIdeal.nD → PrngReg)
variable (m' : (ℓ : Loc ReferenceIdeal.nD ReferenceIdeal.τ ReferenceIdeal.sig) → Buf (Elt Ideal) ℓ)

/-- Two places of a matrix with the same row and the same column are one place. -/
theorem ix2_ext {M N : ℕ} (i : (⟨2, ![M, N]⟩ : Shape).Idx) (r : Fin M) (l : Fin N) (h0 : (i 0).val = r.val) (h1 : (i 1).val = l.val) :
    i = ValueIdx.ix2 r l := by
  funext a; apply Fin.ext
  match a with
  | ⟨0, _⟩ => exact h0
  | ⟨1, _⟩ => exact h1

/-- What the two launches agree on: device `c` holds block `c` of the rows of the activations, block `c` of the columns
    of the weights, and both scales whole. -/
structure Agree : Prop where
  act : ∀ c : Dev KernelIdeal.nD, Gather.act m c = Layout.block ⟨2, ![256, 4096]⟩ ⟨2, ![4096, 4096]⟩ 0 16 c (Plain.act m' 0)
  wgt : ∀ c : Dev KernelIdeal.nD, Gather.wgt m c = Layout.block ⟨2, ![4096, 128]⟩ ⟨2, ![4096, 2048]⟩ 1 16 c (Plain.wgt m' 0)
  scl : ∀ c : Dev KernelIdeal.nD, Scalar.mulf (m ((c : Thread KernelIdeal.nD KernelIdeal.τ).loc KernelIdeal.main_arg2) Gather.ix1)
    (m ((c : Thread KernelIdeal.nD KernelIdeal.τ).loc KernelIdeal.main_arg3) Gather.ix1) = Plain.scl m' 0

variable {m m'} in
/-- A row of slot `o` is row `256 · o + r` of the whole activations. -/
theorem act_at (h : Agree m m') (o : Dev KernelIdeal.nD) (r : Fin 256) (R : Fin 4096) (hR : R.val = o.val * 256 + r.val) (k : Fin 4096) :
    Gather.act m o (ValueIdx.ix2 r k) = Plain.act m' 0 (ValueIdx.ix2 R k) := by
  rw [h.act]
  exact congrArg (Plain.act m' 0) (ix2_ext _ R k hR.symm rfl)

variable {m m'} in
/-- A column of device `c` is column `128 · c + l` of the whole weights. -/
theorem wgt_at (h : Agree m m') (c : Dev KernelIdeal.nD) (l : Fin 128) (J : Fin 2048) (hJ : J.val = c.val * 128 + l.val) (k : Fin 4096) :
    Gather.wgt m c (ValueIdx.ix2 k l) = Plain.wgt m' 0 (ValueIdx.ix2 k J) := by
  rw [h.wgt]
  exact congrArg (Plain.wgt m' 0) (ix2_ext _ k J rfl hJ.symm)

variable {m m'} in
/-- Device `c`'s result is its columns of the reference's. -/
theorem out_eq (h : Agree m m') (c : Dev KernelIdeal.nD) :
    Gather.outAt m ρ c = Layout.block ⟨2, ![4096, 128]⟩ ⟨2, ![4096, 2048]⟩ 1 16 c (Plain.plain m' 0) := by
  funext i
  have hi0 : (i 0).val < 4096 := (i 0).isLt
  have hi1 : (i 1).val < 128 := (i 1).isLt
  have hc : c.val < 16 := c.isLt
  let r : Fin 256 := ⟨(i 0).val % 256, Nat.mod_lt _ (by decide)⟩
  let l : Fin 128 := ⟨(i 1).val, hi1⟩
  let R : Fin 4096 := ⟨(i 0).val, hi0⟩
  let J : Fin 2048 := ⟨c.val * 128 + (i 1).val, by omega⟩
  have hk : Gather.outAt m ρ c i = Gather.chunk m ρ c (Gather.rowSlot i) (ValueIdx.ix2 r l) :=
    congrArg (Gather.chunk m ρ c (Gather.rowSlot i)) (ix2_ext (Gather.rowIx i) r l rfl rfl)
  have hp : (Layout.block ⟨2, ![4096, 128]⟩ ⟨2, ![4096, 2048]⟩ 1 16 c (Plain.plain m' 0)) i = Plain.plain m' 0 (ValueIdx.ix2 R J) :=
    congrArg (Plain.plain m' 0) (ix2_ext _ R J rfl rfl)
  refine hk.trans (Eq.trans ?_ hp.symm)
  rw [Gather.chunk_apply, Plain.plain_apply, h.scl c]
  refine congrArg (fun a => Gather.scaleClip a _) (Finset.sum_congr rfl fun k _ => ?_)
  have hR : R.val = (Gather.rowSlot i).val * 256 + r.val := by
    show (i 0).val = (i 0).val / 256 * 256 + (i 0).val % 256
    omega
  rw [act_at h _ r R hR k, wgt_at h c l J rfl k]

end Cert.Equation

end
-- ==== Proof.SameText.lean ====
/- The kernel as printed and its idealization have the same text: over any float values their bodies, and so their body
   tables, are equal. -/
module

public import proofs.«01_k».proof.Proof.Gen.Kernel
public import proofs.«01_k».proof.Proof.Gen.KernelIdeal

@[expose] public section

set_option maxRecDepth 65536

noncomputable section

namespace Cert.SameText

open Idealize.ShloMosaic

attribute [local instance] Cert.Kernel.Gen.facts Cert.KernelIdeal.Gen.facts

variable {F : FTy → Type} [FloatOps F]

set_option maxHeartbeats 4000000 in
/-- The two bodies are one function. -/
theorem body_same : Kernel.cc0_body (F := F) = KernelIdeal.cc0_body (F := F) := rfl

/-- The two tables of bodies are one: each has the body under its one label. -/
theorem bodies_same : Kernel.defs₀ (F := F) = KernelIdeal.defs₀ (F := F) := by
  unfold Kernel.defs₀ KernelIdeal.defs₀
  refine congrArg Defs.onTc (funext fun l => funext fun a => ?_)
  match l, a with
  | ⟨0, _⟩, (t, s) => rw [body_same]

/-- So are the tables with the pipeline's labels added. -/
theorem defs_same : Kernel.defs (F := F) = KernelIdeal.defs (F := F) := congrArg (Pipeline.defs KernelIdeal.pcfgs) bodies_same

/-- The two host programs are one: the one call. -/
theorem main_same : Kernel.main (F := F) = KernelIdeal.main (F := F) := rfl

end Cert.SameText

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Equation
public import proofs.«01_k».proof.Proof.SameText
public import Idealize.ShloMosaic.Adequacy
public import Idealize.ShloMosaic.Init

@[expose] public section

noncomputable section

namespace Cert.Proof

open Idealize.ShloMosaic Idealize.ShloMosaic.TcCoe Idealize.SL.Sem

section Any

variable {F : FTy → Type} [FloatOps F]
variable (m : (ℓ : Loc KernelIdeal.nD KernelIdeal.τ KernelIdeal.sig) → Buf (Elt F) ℓ) (ρ : Dev KernelIdeal.nD → PrngReg)

/-- At a final state of the run the four arguments of every device are as launched. -/
theorem kept {r : PUnit × MemSt KernelIdeal.nD KernelIdeal.τ KernelIdeal.sig (Elt F)} (h : Gather.QC m ρ r) (c : Dev KernelIdeal.nD) :
    r.2.mem ((c : Thread KernelIdeal.nD KernelIdeal.τ).loc KernelIdeal.main_arg0) = m ((c : Thread KernelIdeal.nD KernelIdeal.τ).loc KernelIdeal.main_arg0)
    ∧ r.2.mem ((c : Thread KernelIdeal.nD KernelIdeal.τ).loc KernelIdeal.main_arg1) = m ((c : Thread KernelIdeal.nD KernelIdeal.τ).loc KernelIdeal.main_arg1)
    ∧ r.2.mem ((c : Thread KernelIdeal.nD KernelIdeal.τ).loc KernelIdeal.main_arg2) = m ((c : Thread KernelIdeal.nD KernelIdeal.τ).loc KernelIdeal.main_arg2)
    ∧ r.2.mem ((c : Thread KernelIdeal.nD KernelIdeal.τ).loc KernelIdeal.main_arg3) = m ((c : Thread KernelIdeal.nD KernelIdeal.τ).loc KernelIdeal.main_arg3) :=
  ⟨(h c 0).trans (Gather.finalA_in m ρ c 0 (by decide)), (h c 1).trans (Gather.finalA_in m ρ c 1 (by decide)),
    (h c 2).trans (Gather.finalA_in m ρ c 2 (by decide)), (h c 3).trans (Gather.finalA_in m ρ c 3 (by decide))⟩

/-- The run over any float values: it ends, the arguments are kept and every counter is zero. -/
theorem frame_any : θ_run KernelIdeal.defs (onTc (τ := KernelIdeal.τ) (KernelIdeal.main (F := F))) ⟨m, fun _ => 0, ρ⟩ (fun r =>
    (∀ c : Dev KernelIdeal.nD,
      r.2.mem ((c : Thread KernelIdeal.nD KernelIdeal.τ).loc KernelIdeal.main_arg0) = m ((c : Thread KernelIdeal.nD KernelIdeal.τ).loc KernelIdeal.main_arg0)
      ∧ r.2.mem ((c : Thread KernelIdeal.nD KernelIdeal.τ).loc KernelIdeal.main_arg1) = m ((c : Thread KernelIdeal.nD KernelIdeal.τ).loc KernelIdeal.main_arg1)
      ∧ r.2.mem ((c : Thread KernelIdeal.nD KernelIdeal.τ).loc KernelIdeal.main_arg2) = m ((c : Thread KernelIdeal.nD KernelIdeal.τ).loc KernelIdeal.main_arg2)
      ∧ r.2.mem ((c : Thread KernelIdeal.nD KernelIdeal.τ).loc KernelIdeal.main_arg3) = m ((c : Thread KernelIdeal.nD KernelIdeal.τ).loc KernelIdeal.main_arg3))
    ∧ r.2.sem = fun _ => 0) :=
  (θ_run KernelIdeal.defs _ _).mono (fun _ h => ⟨kept m ρ h.1, h.2⟩) (Gather.run_main m ρ)

end Any

/-- The kernel over the bits: it ends, its arguments are kept and every counter is zero. -/
theorem frame_kernel : Cert.quiescent_Kernel := fun m ρ _ => by
  rw [SameText.defs_same, SameText.main_same]
  exact frame_any (F := Bits) m ρ

/-- The same over the extended reals. -/
theorem frame_ideal : Cert.quiescent_KernelIdeal := fun m ρ _ => frame_any (F := Ideal) m ρ

/-- Kernel and reference compute one function over the extended reals. -/
theorem same_function : Cert.algebraic_KernelIdeal_ReferenceIdeal := fun m ρ m' ρ' _ hin => by
  have hA : Equation.Agree m m' := {
    act := fun c => (hin c).1
    wgt := fun c => (hin c).2.1
    scl := fun c => congrArg₂ Scalar.mulf (congrFun (hin c).2.2.1 Gather.ix1) (congrFun (hin c).2.2.2 Gather.ix1) }
  refine ⟨Plain.plain m' 0, ?_, ?_⟩
  · exact (θ_run Cert.KernelIdeal.defs _ _).mono
      (fun _ h c => ⟨((h.1 c 4).trans (Gather.final_out m ρ c)).trans (Equation.out_eq ρ hA c), kept m ρ h.1 c⟩) (Gather.run_main m ρ)
  · exact (θ_run Cert.ReferenceIdeal.defs _ _).mono
      (fun _ h => ⟨(h 0).1.trans (Plain.final_plain m' 0), (h 0).2⟩) (ReferenceIdeal.Value.run_blocks m' ρ')

/-- Everything that the certificate claims. -/
theorem claim : Cert.Claim := ⟨Cert.Kernel.Gen.facts, Cert.KernelIdeal.Gen.facts, Cert.ReferenceIdeal.Gen.facts,
  frame_kernel, frame_ideal, fun m ρ _ => Cert.ReferenceIdeal.Gen.frame m ρ, trivial, same_function⟩

end Cert.Proof

end
